-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![32768, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S2048x512 .f32) (main_arg1 : FVec F S512x64 .f32) (main_arg2 : IVec S2048x1 32) (main_arg3 : FVec F S4x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Pre_finite_router_ReferenceIdeal.lean ====
abbrev S32768x512 : Shape := ⟨2, ![32768, 512]⟩
abbrev S512x64 : Shape := ⟨2, ![512, 64]⟩
abbrev S32768x1 : Shape := ⟨2, ![32768, 1]⟩
abbrev S64x512x1024 : Shape := ⟨3, ![64, 512, 1024]⟩
abbrev S512x1024 : Shape := ⟨2, ![512, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S32768x512 .f32) (main_arg1 : FVec F S512x64 .f32) (main_arg2 : IVec S32768x1 32) (main_arg3 : FVec F S64x512x1024 .f32) (main_arg4 : FVec F S512x1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2x4x512x1024 : Shape := ⟨4, ![2, 4, 512, 1024]⟩
abbrev S2 : Shape := ⟨1, ![2]⟩
abbrev S_ : Shape := ⟨0, ![]⟩
abbrev S2048x64 : Shape := ⟨2, ![2048, 64]⟩
abbrev S2048 : Shape := ⟨1, ![2048]⟩
abbrev S1x4x512x1024 : Shape := ⟨4, ![1, 4, 512, 1024]⟩
abbrev S1 : Shape := ⟨1, ![1]⟩
abbrev S1x1x512x1024 : Shape := ⟨4, ![1, 1, 512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S2048x1024, .f32⟩
  | .local _ .vmem, ⟨6, _⟩ => ⟨S2x4x512x1024, .bf16⟩
  | .local _ .vmem, ⟨7, _⟩ => ⟨S2x4x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
@[reducible] def k0_t1_loop : Scf.Loop 32 :=
  let c0_i32_45 : BitVec 32 := 0#32
  let c9_i32 : BitVec 32 := 9#32
  let v67 : BitVec 32 := Scalar.addi c0_i32_45 c9_i32
  let c1_i32_46 : BitVec 32 := 1#32
  ⟨c0_i32_45, v67, c1_i32_46⟩
def k0_cond2 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c8_i32_57 : BitVec 32 := 8#32
  let v84 : BitVec 1 := Scalar.cmpi .slt arg14 c8_i32_57
  let v85 : BitVec 32 := Scalar.extui v84
  let c0_i32_58 : BitVec 32 := 0#32
  let v86 : BitVec 1 := Scalar.cmpi .ne v85 c0_i32_58
  v86

def k0_off1 (k0_t1 : Fin k0_t1_loop.trips) : Fin 1 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  ![v77.toNat]
def k0_off2 (k0_t1 : Fin k0_t1_loop.trips) : Fin 1 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  ![v78.toNat]
def k0_off3 (k0_t1 : Fin k0_t1_loop.trips) : Fin 4 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  let c0_i32_86 : BitVec 32 := 0#32
  let c0_i32_87 : BitVec 32 := 0#32
  let c0_i32_88 : BitVec 32 := 0#32
  ![v78.toNat, 0, 0, 0]
def k0_off4 (k0_t1 : Fin k0_t1_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let c0_i32_89 : BitVec 32 := 0#32
  let c0_i32_90 : BitVec 32 := 0#32
  let c0_i32_91 : BitVec 32 := 0#32
  ![v77.toNat, 0, 0, 0]
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_84 : BitVec 32 := 1#32
  let v126 : BitVec 32 := Scalar.muli v25 c1_i32_84
  let v127 : BitVec 32 := Scalar.addi c0_i32_85 v126
  v127.toNat
def k0_cond4 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c7_i32_61 : BitVec 32 := 7#32
  let v92 : BitVec 1 := Scalar.cmpi .slt arg14 c7_i32_61
  let v93 : BitVec 32 := Scalar.extui v92
  let c0_i32_62 : BitVec 32 := 0#32
  let v94 : BitVec 1 := Scalar.cmpi .ne v93 c0_i32_62
  v94

def k0_off5 (k0_t1 : Fin k0_t1_loop.trips) : Fin 1 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  ![v77.toNat]
def k0_off6 (k0_t1 : Fin k0_t1_loop.trips) : Fin 1 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  ![v78.toNat]
def k0_off7 (k0_t1 : Fin k0_t1_loop.trips) : Fin 4 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  let c0_i32_86 : BitVec 32 := 0#32
  let c0_i32_87 : BitVec 32 := 0#32
  let c0_i32_88 : BitVec 32 := 0#32
  ![v78.toNat, 0, 0, 0]
def k0_off8 (k0_t1 : Fin k0_t1_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let c0_i32_89 : BitVec 32 := 0#32
  let c0_i32_90 : BitVec 32 := 0#32
  let c0_i32_91 : BitVec 32 := 0#32
  ![v77.toNat, 0, 0, 0]
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_84 : BitVec 32 := 1#32
  let v126 : BitVec 32 := Scalar.muli v14 c1_i32_84
  let v127 : BitVec 32 := Scalar.addi c0_i32_85 v126
  v127.toNat
@[reducible] def k0_t2_loop : Scf.Loop 32 :=
  let c0_i32_70 : BitVec 32 := 0#32
  let c4_i32_71 : BitVec 32 := 4#32
  let v108 : BitVec 32 := Scalar.addi c0_i32_70 c4_i32_71
  let c1_i32_72 : BitVec 32 := 1#32
  ⟨c0_i32_70, v108, c1_i32_72⟩
def k0_off9 (k0_t1 : Fin k0_t1_loop.trips) (k0_t2 : Fin k0_t2_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v126 : Index := Scalar.indexCast v77
  let c0_i32_70 : BitVec 32 := 0#32
  let c1_i32_72 : BitVec 32 := 1#32
  let arg15 : BitVec 32 := Scf.iv c0_i32_70 c1_i32_72 k0_t2
  let v127 : Index := Scalar.indexCast arg15
  let c0_84 : Index := 0#32
  let c0_85 : Index := 0#32
  ![v126.toNat, v127.toNat, 0, 0]
def k0_cond5 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c1_i32_74 : BitVec 32 := 1#32
  let v109 : BitVec 1 := Scalar.cmpi .sge arg14 c1_i32_74
  let c7_i32_75 : BitVec 32 := 7#32
  let v110 : BitVec 1 := Scalar.cmpi .sle arg14 c7_i32_75
  let v111 : BitVec 1 := Scalar.andi v109 v110
  let v112 : BitVec 32 := Scalar.extui v111
  let c0_i32_76 : BitVec 32 := 0#32
  let v113 : BitVec 1 := Scalar.cmpi .ne v112 c0_i32_76
  v113

@[reducible] def k0_t3_loop : Scf.Loop 32 :=
  let c0_i32_91 : BitVec 32 := 0#32
  let c4_i32_92 : BitVec 32 := 4#32
  let v138 : BitVec 32 := Scalar.addi c0_i32_91 c4_i32_92
  let c1_i32_93 : BitVec 32 := 1#32
  ⟨c0_i32_91, v138, c1_i32_93⟩
def k0_off10 (k0_t1 : Fin k0_t1_loop.trips) (k0_t3 : Fin k0_t3_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v139 : Index := Scalar.indexCast v77
  let c0_i32_91 : BitVec 32 := 0#32
  let c1_i32_93 : BitVec 32 := 1#32
  let arg15 : BitVec 32 := Scf.iv c0_i32_91 c1_i32_93 k0_t3
  let v140 : Index := Scalar.indexCast arg15
  let c0_95 : Index := 0#32
  let c0_96 : Index := 0#32
  ![v139.toNat, v140.toNat, 0, 0]
def k0_cond6 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c8_i32_77 : BitVec 32 := 8#32
  let v114 : BitVec 1 := Scalar.cmpi .slt arg14 c8_i32_77
  let v115 : BitVec 32 := Scalar.extui v114
  let c0_i32_78 : BitVec 32 := 0#32
  let v116 : BitVec 1 := Scalar.cmpi .ne v115 c0_i32_78
  v116

def k0_off11 (k0_t1 : Fin k0_t1_loop.trips) : Fin 1 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  ![v77.toNat]
def k0_off12 (k0_t1 : Fin k0_t1_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let c0_i32_85 : BitVec 32 := 0#32
  let c0_i32_86 : BitVec 32 := 0#32
  let c0_i32_87 : BitVec 32 := 0#32
  ![v77.toNat, 0, 0, 0]
def k0_off13 (k0_t1 : Fin k0_t1_loop.trips) : Fin 4 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  let c0_i32_88 : BitVec 32 := 0#32
  let c0_i32_89 : BitVec 32 := 0#32
  let c0_i32_90 : BitVec 32 := 0#32
  ![v78.toNat, 0, 0, 0]
def k0_off14 (k0_t1 : Fin k0_t1_loop.trips) : Fin 1 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  ![v78.toNat]
def k0_cond7 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c7_i32_79 : BitVec 32 := 7#32
  let v117 : BitVec 1 := Scalar.cmpi .slt arg14 c7_i32_79
  let v118 : BitVec 32 := Scalar.extui v117
  let c0_i32_80 : BitVec 32 := 0#32
  let v119 : BitVec 1 := Scalar.cmpi .ne v118 c0_i32_80
  v119

def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_85 : BitVec 32 := 1#32
  let v126 : BitVec 32 := Scalar.muli v14 c1_i32_85
  let v127 : BitVec 32 := Scalar.addi c0_i32_86 v126
  v127.toNat
def k0_cond8 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c7_i32_81 : BitVec 32 := 7#32
  let v120 : BitVec 1 := Scalar.cmpi .slt arg14 c7_i32_81
  let v121 : BitVec 32 := Scalar.extui v120
  let c0_i32_82 : BitVec 32 := 0#32
  let v122 : BitVec 1 := Scalar.cmpi .ne v121 c0_i32_82
  v122

def k0_off15 (k0_t1 : Fin k0_t1_loop.trips) : Fin 1 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  ![v77.toNat]
def k0_off16 (k0_t1 : Fin k0_t1_loop.trips) : Fin 4 → Nat :=
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let c0_i32_85 : BitVec 32 := 0#32
  let c0_i32_86 : BitVec 32 := 0#32
  let c0_i32_87 : BitVec 32 := 0#32
  ![v77.toNat, 0, 0, 0]
def k0_off17 (k0_t1 : Fin k0_t1_loop.trips) : Fin 4 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  let c0_i32_88 : BitVec 32 := 0#32
  let c0_i32_89 : BitVec 32 := 0#32
  let c0_i32_90 : BitVec 32 := 0#32
  ![v78.toNat, 0, 0, 0]
def k0_off18 (k0_t1 : Fin k0_t1_loop.trips) : Fin 1 → Nat :=
  let c1_i32_54 : BitVec 32 := 1#32
  let c0_i32_45 : BitVec 32 := 0#32
  let c1_i32_46 : BitVec 32 := 1#32
  let arg14 : BitVec 32 := Scf.iv c0_i32_45 c1_i32_46 k0_t1
  let c2_i32_48 : BitVec 32 := 2#32
  let c0_i32_49 : BitVec 32 := 0#32
  let v68 : BitVec 1 := Scalar.cmpi .eq c2_i32_48 c0_i32_49
  let c1_i32_50 : BitVec 32 := 1#32
  let v69 : BitVec 32 := Scalar.select v68 c1_i32_50 c2_i32_48
  let v70 : BitVec 32 := Scalar.remsi arg14 v69
  let c0_i32_52 : BitVec 32 := 0#32
  let v72 : BitVec 1 := Scalar.cmpi .slt v70 c0_i32_52
  let c0_i32_53 : BitVec 32 := 0#32
  let v73 : BitVec 1 := Scalar.cmpi .slt v69 c0_i32_53
  let v74 : BitVec 1 := Scalar.xori v72 v73
  let c0_i32_51 : BitVec 32 := 0#32
  let v71 : BitVec 1 := Scalar.cmpi .ne v70 c0_i32_51
  let v75 : BitVec 1 := Scalar.andi v74 v71
  let v76 : BitVec 32 := Scalar.addi v70 v69
  let v77 : BitVec 32 := Scalar.select v75 v76 v70
  let v78 : BitVec 32 := Scalar.subi c1_i32_54 v77
  ![v78.toNat]
def k0_cond9 (k0_t1 : Fin k0_t1_loop.trips) : BitVec 1 :=
  let c0_i32_45 : BitVec 32 := 0#32
  let c1_i32_46 : BitVec 32 := 1#32
  let arg14 : BitVec 32 := Scf.iv c0_i32_45 c1_i32_46 k0_t1
  let c6_i32 : BitVec 32 := 6#32
  let v123 : BitVec 1 := Scalar.cmpi .slt arg14 c6_i32
  let v124 : BitVec 32 := Scalar.extui v123
  let c0_i32_83 : BitVec 32 := 0#32
  let v125 : BitVec 1 := Scalar.cmpi .ne v124 c0_i32_83
  v125

def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_85 : BitVec 32 := 1#32
  let v126 : BitVec 32 := Scalar.muli v25 c1_i32_85
  let v127 : BitVec 32 := Scalar.addi c0_i32_86 v126
  v127.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x512 : Shape := ⟨2, ![32768, 512]⟩
abbrev S512x64 : Shape := ⟨2, ![512, 64]⟩
abbrev S32768x1 : Shape := ⟨2, ![32768, 1]⟩
abbrev S64x512x1024 : Shape := ⟨3, ![64, 512, 1024]⟩
abbrev S512x1024 : Shape := ⟨2, ![512, 1024]⟩
abbrev S32768x64 : Shape := ⟨2, ![32768, 64]⟩
abbrev S_ : Shape := ⟨0, ![]⟩
abbrev S32768 : Shape := ⟨1, ![32768]⟩
abbrev S32768x1024 : Shape := ⟨2, ![32768, 1024]⟩
abbrev S32768x1x1 : Shape := ⟨3, ![32768, 1, 1]⟩
abbrev S32768x512x1024 : Shape := ⟨3, ![32768, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x64, .f32⟩
  | .hbm, ⟨2, _⟩ => ⟨S32768x1, .i32⟩
  | .hbm, ⟨3, _⟩ => ⟨S64x512x1024, .f32⟩
  | .hbm, ⟨4, _⟩ => ⟨S512x1024, .f32⟩
  | .hbm, ⟨5, _⟩ => ⟨S32768x64, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x64, .f32⟩
  | .hbm, ⟨10, _⟩ => ⟨S32768x64, .f32⟩
  | .hbm, ⟨11, _⟩ => ⟨S32768x64, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x64, .f32⟩
  | .hbm, ⟨16, _⟩ => ⟨S32768x64, .f32⟩
  | .hbm, ⟨17, _⟩ => ⟨S32768x1024, .f32⟩
  | .hbm, ⟨18, _⟩ => ⟨S_, .i32⟩
  | .hbm, ⟨19, _⟩ => ⟨S32768x1, .i32⟩
  | .hbm, ⟨20, _⟩ => ⟨S32768x1, .i1⟩
  | .hbm, ⟨21, _⟩ => ⟨S_, .i32⟩
  | .hbm, ⟨22, _⟩ => ⟨S32768x1, .i32⟩
  | .hbm, ⟨23, _⟩ => ⟨S32768x1, .i1⟩
  | .hbm, ⟨24, _⟩ => ⟨S32768x1, .i1⟩
  | .hbm, ⟨25, _⟩ => ⟨S_, .i32⟩
  | .hbm, ⟨26, _⟩ => ⟨S32768x1, .i32⟩
  | .hbm, ⟨27, _⟩ => ⟨S32768x1, .i1⟩
  | .hbm, ⟨28, _⟩ => ⟨S_, .i32⟩
  | .hbm, ⟨29, _⟩ => ⟨S32768x1, .i32⟩
  | .hbm, ⟨30, _⟩ => ⟨S32768x1, .i32⟩
  | .hbm, ⟨31, _⟩ => ⟨S32768x1, .i32⟩
  | .hbm, ⟨32, _⟩ => ⟨S32768x1x1, .i32⟩
  | .hbm, ⟨33, _⟩ => ⟨S32768x1, .f32⟩
  | .hbm, ⟨34, _⟩ => ⟨S_, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768, .i32⟩
  | .hbm, ⟨39, _⟩ => ⟨S32768x1, .i32⟩
  | .hbm, ⟨40, _⟩ => ⟨S32768x512x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Cells.lean ====
/-
# `Cells`: the ring, its semaphores and buffers, and the schedule of rounds

Sixteen devices stand in a ring. Every device sends its block of expert matrices round the ring in both directions:
eight hops to the right and seven to the left, through a buffer of two slots per direction. Direction `false` is the
one to the right, `true` the one to the left. Hop `h` of a direction copies slot `h % 2` of a device to slot
`(h + 1) % 2` of the next device; that device gives the slot it has finished with back by a credit signal.

Everything below is stated once for both directions.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the ring's, indices and levels the natural numbers -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The ring -/

set_option backward.proofsInPublic true in
/-- The device that direction `b` sends to: the one after `c`, or the one before it. -/
def dst (b : Bool) (c : Dev nD) : Dev nD := ⟨(c.val + (if b then 15 else 1)) % 16, Nat.mod_lt _ (by decide)⟩

/-- The device that direction `b` receives from. -/
def src (b : Bool) (c : Dev nD) : Dev nD := dst (!b) c

theorem src_dst (b : Bool) (c : Dev nD) : src b (dst b c) = c := by revert b c; decide
theorem dst_src (b : Bool) (c : Dev nD) : dst b (src b c) = c := by revert b c; decide

/-- The device whose block has come to `c` after `h` hops of direction `b`. -/
def origin (b : Bool) (h : ℕ) (c : Dev nD) : Dev nD := (src b)^[h] c

theorem origin_succ (b : Bool) (h : ℕ) (c : Dev nD) : origin b (h + 1) c = origin b h (src b c) := rfl

theorem origin_dst (b : Bool) (h : ℕ) (c : Dev nD) : origin b (h + 1) (dst b c) = origin b h c := by
  rw [origin_succ, src_dst]

def ring (b : Bool) : Dev nD ≃ Dev nD := ⟨dst b, src b, src_dst b, dst_src b⟩

/-- The number of hops of a direction. -/
def hops (b : Bool) : ℕ := if b then 7 else 8

/-- The parity of a hop: the slot it sends from. -/
def par (h : ℕ) : Bool := h % 2 == 1

theorem par_succ (h : ℕ) : par (h + 1) = !par h := by
  unfold par; rcases Nat.mod_two_eq_zero_or_one h with h0 | h0 <;> simp [Nat.add_mod, h0]

theorem two_div_par (h : ℕ) : 2 * (h / 2) + (par h).toNat = h := by
  unfold par; rcases Nat.mod_two_eq_zero_or_one h with h0 | h0 <;> simp [h0] <;> omega

theorem par_pred {h : ℕ} (hh : 1 ≤ h) : par (h - 1) = !par h := by
  obtain ⟨k, rfl⟩ : ∃ k, h = k + 1 := ⟨h - 1, by omega⟩
  rw [par_succ, Bool.not_not]; rfl

theorem par_add_two (h : ℕ) : par (h + 2) = par h := by rw [par_succ, par_succ, Bool.not_not]

/-! ## Semaphores -/

abbrev barS : Sem sig := (SemArray.scalar (sig.barrier 0 rfl) : Sems sig S_).sem
/-- The credit semaphore of a direction. -/
def crdS : Bool → Sem sig := fun | false => cc0_scratch3.sem | true => cc0_scratch7.sem
/-- The send semaphore of a slot, -/
def sndS : Bool → Bool → DmaSem sig
  | false, false => (6 : Fin 14) | false, true => (7 : Fin 14) | true, false => (10 : Fin 14) | true, true => (11 : Fin 14)
/-- and the receive semaphore. -/
def rcvS : Bool → Bool → DmaSem sig
  | false, false => (8 : Fin 14) | false, true => (9 : Fin 14) | true, false => (12 : Fin 14) | true, true => (13 : Fin 14)

abbrev barC (c : Dev nD) : GSem nD τ sig := ((c : Thread nD τ), .reg barS)
abbrev crdC (c : Dev nD) (b : Bool) : GSem nD τ sig := ((c : Thread nD τ), .reg (crdS b))
abbrev sndC (c : Dev nD) (b s : Bool) : GSem nD τ sig := ((c : Thread nD τ), .dma (sndS b s))
abbrev rcvC (c : Dev nD) (b s : Bool) : GSem nD τ sig := ((c : Thread nD τ), .dma (rcvS b s))

/-- What a semaphore is for. -/
inductive Role
  | bar
  | crd (b : Bool)
  | snd (b s : Bool)
  | rcv (b s : Bool)
  deriving DecidableEq

/-- The semaphore of a role, -/
def Role.sem : Role → SemLoc sig
  | .bar => .reg barS
  | .crd b => .reg (crdS b)
  | .snd b s => .dma (sndS b s)
  | .rcv b s => .dma (rcvS b s)

/-- the roles in a row, the barrier's first, -/
def roles : List Role :=
  [.bar, .crd false, .crd true, .snd false false, .snd false true, .snd true false, .snd true true,
    .rcv false false, .rcv false true, .rcv true false, .rcv true true]

/-- and the role of a semaphore, if it has one. -/
def roleOf (sm : SemLoc sig) : Option Role := roles.find? fun r => r.sem = sm

theorem mem_roles (r : Role) : r ∈ roles := by
  rcases r with _ | b | ⟨b, s⟩ | ⟨b, s⟩
  · decide
  · revert b; decide
  · revert b s; decide
  · revert b s; decide

instance : Fintype Role := ⟨roles.toFinset, fun r => List.mem_toFinset.mpr (mem_roles r)⟩

theorem roleOf_sem (r : Role) : roleOf r.sem = some r := by
  revert r; decide

theorem roleOf_bar : roleOf (.reg barS) = some .bar := roleOf_sem .bar
theorem roleOf_crd (b : Bool) : roleOf (.reg (crdS b)) = some (.crd b) := roleOf_sem (.crd b)
theorem roleOf_snd (b s : Bool) : roleOf (.dma (sndS b s)) = some (.snd b s) := roleOf_sem (.snd b s)
theorem roleOf_rcv (b s : Bool) : roleOf (.dma (rcvS b s)) = some (.rcv b s) := roleOf_sem (.rcv b s)

theorem Role.sem_injective : Function.Injective Role.sem := fun r r' h =>
  Option.some.inj ((roleOf_sem r).symm.trans ((congrArg roleOf h).trans (roleOf_sem r')))

/-! ## Buffers -/

/-- The communication buffer of a direction. -/
def comM : Bool → Memref sig .tc .vmem S2x4x512x1024 .bf16
  | false => Memref.whole cc0_scratch0
  | true => Memref.whole cc0_scratch4

theorem comM_whole (b : Bool) : (comM b).IsWhole := by cases b <;> exact Memref.isWhole_whole _

/-- The offsets of a slot. -/
def slotOff (s : Bool) : Fin 4 → ℕ := ![s.toNat, 0, 0, 0]

theorem slotOff_inb (s : Bool) : ∀ a, slotOff s a + S1x4x512x1024.size a ≤ S2x4x512x1024.size a := by
  revert s; decide +kernel

/-- A slot of it at given offsets, as the kernel takes it: the slice, its leading axis dropped. -/
def slotAt (b : Bool) (off : Fin 4 → ℕ) (h : ∀ a, off a + S1x4x512x1024.size a ≤ S2x4x512x1024.size a) :
    Memref sig .tc .vmem S4x512x1024 .bf16 :=
  ((comM b).slice (Rect.unit (s := S2x4x512x1024) off S1x4x512x1024.size h) (fun _ => rfl)).squeeze S4x512x1024
    squeezes_S1x4x512x1024_S4x512x1024

/-- A slot. -/
def slotM (b s : Bool) : Memref sig .tc .vmem S4x512x1024 .bf16 := slotAt b (slotOff s) (slotOff_inb s)

theorem slotAt_eq (b s : Bool) {off : Fin 4 → ℕ} (h) (e : off = slotOff s) : slotAt b off h = slotM b s := by
  subst e; rfl

theorem slotM_scratch (b s : Bool) : (slotM b s).view.ref.isScScratch = false := by cases b <;> rfl

/-- What one copy of a slot credits its semaphores. -/
irreducible_def N : ℕ := (slotM false false).view.dmaCredit
theorem N_pos : 0 < N := by rw [N_def]; exact View.dmaCredit_pos _ (by decide +kernel)
theorem slotM_credit (b s : Bool) : (slotM b s).view.dmaCredit = N := by rw [N_def]

end Cert.MoeRing

end
-- ==== Proof.Sched.lean ====
/-
# `Sched`: the contents of the slots, the schedule of rounds, and what a device owes
-/
module

public import proofs.«01_k».proof.Proof.Cells

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Contents -/

/-- The staged blocks of a device's arguments. -/
def xBlk (c : Dev nD) : Vec F S2048x512 .f32 := (win0_0.blk (0 : Fin 1)).view.read (Elt F) ((s₀ m ρ).mem ((c : Thread nD τ).loc main_arg0))
def rBlk (c : Dev nD) : Vec F S512x64 .f32 := (win0_1.blk (0 : Fin 1)).view.read (Elt F) ((s₀ m ρ).mem ((c : Thread nD τ).loc main_arg1))
def iBlk (c : Dev nD) : Vec F S2048x1 .i32 := (win0_2.blk (0 : Fin 1)).view.read (Elt F) ((s₀ m ρ).mem ((c : Thread nD τ).loc main_arg2))
def eBlk (c : Dev nD) : Vec F S4x512x1024 .f32 := (win0_3.blk (0 : Fin 1)).view.read (Elt F) ((s₀ m ρ).mem ((c : Thread nD τ).loc main_arg3))
def sBlk (c : Dev nD) : Vec F S512x1024 .f32 := (win0_4.blk (0 : Fin 1)).view.read (Elt F) ((s₀ m ρ).mem ((c : Thread nD τ).loc main_arg4))

/-- The expert matrices a device sends round: its own, at sixteen bits. -/
def wBlk (c : Dev nD) : Vec F S4x512x1024 .bf16 := k0_pay8 (eBlk m ρ c)

/-- The expert matrices `c` holds after `h` hops of direction `b`. -/
def held (c : Dev nD) (b : Bool) (h : ℕ) : Vec F S4x512x1024 .bf16 := wBlk m ρ (origin b h c)

/-- A slot of `c` owned at contents `X`, and at any. -/
def slot (c : Dev nD) (b s : Bool) (q : PosShare TreeShare) (X : Vec F S4x512x1024 .bf16) : sProp 𝕄 :=
  owns (c : Thread nD τ) (slotM b s) q X
def slotAny (c : Dev nD) (b s : Bool) : sProp 𝕄 := iprop(∃ X, slot (F := F) c b s fullShare X)

omit [FloatOps F] in
instance slot_storable (c : Dev nD) (b s q X) : BI.Storable (upEmb : UEmb _ 𝕄) (slot (F := F) c b s q X) := by
  unfold slot; infer_instance
omit [FloatOps F] in
instance slotAny_storable (c : Dev nD) (b s) : BI.Storable (upEmb : UEmb _ 𝕄) (slotAny (F := F) c b s) := by
  unfold slotAny; infer_instance

/-! ## The schedule -/

/-- The duties of round `r` of a semaphore. -/
def dutiesOf : Option Role → ℕ → Finset Bool
  | some .bar, r => if r = 0 then Finset.univ else ∅
  | some (.crd b), r => if r + 1 < hops b then {false} else ∅
  | some (.snd b s), r => if 2 * r + s.toNat < hops b then {false} else ∅
  | some (.rcv b s), r => if 2 * r + (!s).toNat < hops b then {false} else ∅
  | none, _ => ∅

def amountOf : Option Role → ℕ
  | some .bar => 1
  | some (.crd _) => 1
  | _ => N

/-- What the barrier's signal from the device that direction `b` sends to hands over: that device's slot one. -/
def barPay (c : Dev nD) (b : Bool) : sProp 𝕄 := slotAny (dst b c) b true

/-- What the credit of hop `h` hands over: the slot of the device sent to that the next hop's copy goes to, and
    that this device has come to the round of the next hop at its receive semaphore. -/
def crdPay (c : Dev nD) (b : Bool) (h : ℕ) : sProp 𝕄 :=
  iprop(slotAny (dst b c) b (par h) ∗ reached ER (rcvC (dst b c) b (par h)) ((h + 1) / 2))

/-- What the completion of hop `h`'s copy hands its sender: the half share of the slot it read. -/
def sndPay (c : Dev nD) (b s : Bool) (h : ℕ) : sProp 𝕄 := slot c b s fullShare.left (held m ρ c b h)

/-- What the arrival of hop `h`'s copy hands its receiver: the slot with the block of the hop after, and that the
    sender has come to round `h` of its credit semaphore. -/
def rcvPay (c : Dev nD) (b s : Bool) (h : ℕ) : sProp 𝕄 :=
  iprop(slot c b s fullShare (held m ρ c b (h + 1)) ∗ reached ER (crdC (src b c) b) h)

def payOf (c : Dev nD) : Option Role → ℕ → Bool → sProp 𝕄
  | some .bar, _, d => barPay c d
  | some (.crd b), r, _ => crdPay c b r
  | some (.snd b s), r, _ => sndPay m ρ c b s (2 * r + s.toNat)
  | some (.rcv b s), r, _ => rcvPay m ρ c b s (2 * r + (!s).toNat)
  | none, _, _ => iprop(emp)

def Rd : Rounds.Schedule (GSem nD τ sig) Bool 𝕄 where
  duties g r := if g.1.2 = .tc then dutiesOf (roleOf g.2) r else ∅
  unitless _ := False
  amount g _ _ := amountOf (roleOf g.2)
  payload g r d := payOf m ρ g.1.1 (roleOf g.2) r d
  amount_pos g _ _ _ := by
    unfold amountOf; split
    · exact Nat.one_pos
    · exact Nat.one_pos
    · exact N_pos

instance Rd_payload_storable (g : GSem nD τ sig) (r : ℕ) (d : Bool) :
    BI.Storable (upEmb : UEmb _ 𝕄) ((Rd (F := F) m ρ).payload g r d) := by
  show BI.Storable upEmb (payOf m ρ g.1.1 (roleOf g.2) r d)
  unfold payOf barPay crdPay sndPay rcvPay
  split <;> infer_instance

section Sched
variable (c : Dev nD) (b s d : Bool)

theorem duties_bar : (Rd (F := F) m ρ).duties (barC c) 0 = Finset.univ := by
  show (if (c : Thread nD τ).2 = .tc then dutiesOf (roleOf (.reg barS)) 0 else ∅) = _
  rw [if_pos rfl, roleOf_bar]; rfl
theorem duties_crd {h : ℕ} (hh : h + 1 < hops b) : (Rd (F := F) m ρ).duties (crdC c b) h = {false} := by
  show (if (c : Thread nD τ).2 = .tc then dutiesOf (roleOf (.reg (crdS b))) h else ∅) = _
  rw [if_pos rfl, roleOf_crd]; exact if_pos hh
theorem duties_snd {h : ℕ} (hh : h < hops b) : (Rd (F := F) m ρ).duties (sndC c b (par h)) (h / 2) = {false} := by
  show (if (c : Thread nD τ).2 = .tc then dutiesOf (roleOf (.dma (sndS b (par h)))) (h / 2) else ∅) = _
  rw [if_pos rfl, roleOf_snd]; exact if_pos (by rw [two_div_par]; exact hh)
theorem duties_rcv {h : ℕ} (hh : h < hops b) : (Rd (F := F) m ρ).duties (rcvC c b (!par h)) (h / 2) = {false} := by
  show (if (c : Thread nD τ).2 = .tc then dutiesOf (roleOf (.dma (rcvS b (!par h)))) (h / 2) else ∅) = _
  rw [if_pos rfl, roleOf_rcv]; exact if_pos (by rw [Bool.not_not, two_div_par]; exact hh)

/-- After its last round a semaphore has no duty. -/
theorem duties_bar_later : ∀ r, 1 ≤ r → (Rd (F := F) m ρ).duties (barC c) r = ∅ := fun r hr => by
  show (if (c : Thread nD τ).2 = .tc then dutiesOf (roleOf (.reg barS)) r else ∅) = _
  rw [if_pos rfl, roleOf_bar]; exact if_neg (by omega)
theorem duties_crd_later : ∀ r, hops b - 1 ≤ r → (Rd (F := F) m ρ).duties (crdC c b) r = ∅ := fun r hr => by
  show (if (c : Thread nD τ).2 = .tc then dutiesOf (roleOf (.reg (crdS b))) r else ∅) = _
  rw [if_pos rfl, roleOf_crd]; exact if_neg (by omega)
theorem duties_snd_later {h : ℕ} (hh : hops b ≤ h) : ∀ r, h / 2 ≤ r → (Rd (F := F) m ρ).duties (sndC c b (par h)) r = ∅ := fun r hr => by
  show (if (c : Thread nD τ).2 = .tc then dutiesOf (roleOf (.dma (sndS b (par h)))) r else ∅) = _
  rw [if_pos rfl, roleOf_snd]; exact if_neg (by have := two_div_par h; omega)
theorem duties_rcv_later {h : ℕ} (hh : hops b ≤ h) : ∀ r, h / 2 ≤ r → (Rd (F := F) m ρ).duties (rcvC c b (!par h)) r = ∅ := fun r hr => by
  show (if (c : Thread nD τ).2 = .tc then dutiesOf (roleOf (.dma (rcvS b (!par h)))) r else ∅) = _
  rw [if_pos rfl, roleOf_rcv]; exact if_neg (by have := two_div_par h; rw [Bool.not_not]; omega)

theorem amount_bar (r : ℕ) : (Rd (F := F) m ρ).amount (barC c) r d = 1 := by
  show amountOf (roleOf (.reg barS)) = _; rw [roleOf_bar]; rfl
theorem amount_crd (r : ℕ) : (Rd (F := F) m ρ).amount (crdC c b) r d = 1 := by
  show amountOf (roleOf (.reg (crdS b))) = _; rw [roleOf_crd]; rfl
theorem amount_snd (r : ℕ) : (Rd (F := F) m ρ).amount (sndC c b s) r d = N := by
  show amountOf (roleOf (.dma (sndS b s))) = _; rw [roleOf_snd]; rfl
theorem amount_rcv (r : ℕ) : (Rd (F := F) m ρ).amount (rcvC c b s) r d = N := by
  show amountOf (roleOf (.dma (rcvS b s))) = _; rw [roleOf_rcv]; rfl

theorem payload_bar : (Rd (F := F) m ρ).payload (barC c) 0 d = barPay c d := by
  show payOf m ρ c (roleOf (.reg barS)) 0 d = _; rw [roleOf_bar]; rfl
theorem payload_crd (h : ℕ) : (Rd (F := F) m ρ).payload (crdC c b) h d = crdPay c b h := by
  show payOf m ρ c (roleOf (.reg (crdS b))) h d = _; rw [roleOf_crd]; rfl
theorem payload_snd (h : ℕ) : (Rd (F := F) m ρ).payload (sndC c b (par h)) (h / 2) d = sndPay m ρ c b (par h) h := by
  show payOf m ρ c (roleOf (.dma (sndS b (par h)))) (h / 2) d = _
  rw [roleOf_snd]; show sndPay m ρ c b (par h) (2 * (h / 2) + (par h).toNat) = _; rw [two_div_par]
theorem payload_rcv (h : ℕ) : (Rd (F := F) m ρ).payload (rcvC c b (!par h)) (h / 2) d = rcvPay m ρ c b (!par h) h := by
  show payOf m ρ c (roleOf (.dma (rcvS b (!par h)))) (h / 2) d = _
  rw [roleOf_rcv]; show rcvPay m ρ c b (!par h) (2 * (h / 2) + (!!par h).toNat) = _; rw [Bool.not_not, two_div_par]

theorem expect_bar : (Rd (F := F) m ρ).expect (barC c) 0 = 2 := by
  unfold Schedule.expect Schedule.amountOf
  rw [duties_bar, Finset.sum_congr rfl fun d _ => amount_bar m ρ c d 0, Finset.sum_const, Finset.card_univ, Fintype.card_bool, smul_eq_mul]
theorem expect_crd {h : ℕ} (hh : h + 1 < hops b) : (Rd (F := F) m ρ).expect (crdC c b) h = 1 := by
  unfold Schedule.expect Schedule.amountOf; rw [duties_crd m ρ c b hh, Finset.sum_singleton, amount_crd]
theorem expect_snd {h : ℕ} (hh : h < hops b) : (Rd (F := F) m ρ).expect (sndC c b (par h)) (h / 2) = N := by
  unfold Schedule.expect Schedule.amountOf; rw [duties_snd m ρ c b hh, Finset.sum_singleton, amount_snd]
theorem expect_rcv {h : ℕ} (hh : h < hops b) : (Rd (F := F) m ρ).expect (rcvC c b (!par h)) (h / 2) = N := by
  unfold Schedule.expect Schedule.amountOf; rw [duties_rcv m ρ c b hh, Finset.sum_singleton, amount_rcv]

/-- The payloads of a whole round. -/
theorem rest_bar : bigSep ((Rd (F := F) m ρ).duties (barC c) 0 \ ∅) (fun d => (Rd (F := F) m ρ).payload (barC c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_crd {h : ℕ} (hh : h + 1 < hops b) :
    bigSep ((Rd (F := F) m ρ).duties (crdC c b) h \ ∅) (fun d => (Rd (F := F) m ρ).payload (crdC c b) h d) = crdPay c b h := by
  rw [Finset.sdiff_empty, duties_crd m ρ c b hh, bigSep_singleton, payload_crd]
theorem rest_snd {h : ℕ} (hh : h < hops b) :
    bigSep ((Rd (F := F) m ρ).duties (sndC c b (par h)) (h / 2) \ ∅) (fun d => (Rd (F := F) m ρ).payload (sndC c b (par h)) (h / 2) d)
      = sndPay m ρ c b (par h) h := by
  rw [Finset.sdiff_empty, duties_snd m ρ c b hh, bigSep_singleton, payload_snd]
theorem rest_rcv {h : ℕ} (hh : h < hops b) :
    bigSep ((Rd (F := F) m ρ).duties (rcvC c b (!par h)) (h / 2) \ ∅) (fun d => (Rd (F := F) m ρ).payload (rcvC c b (!par h)) (h / 2) d)
      = rcvPay m ρ c b (!par h) h := by
  rw [Finset.sdiff_empty, duties_rcv m ρ c b hh, bigSep_singleton, payload_rcv]

end Sched

/-! ## What a device owes, and the levels

The index of a due is its level: the barrier's 1, the arrival of hop `h` at `2 h + 3`, the credit of hop `h` at
`2 h + 4`; a wait at level `v` may be made while every due still owed is above `v`. -/

abbrev rcvLv (h : ℕ) : ℕ := 2 * h + 3
abbrev crdLv (h : ℕ) : ℕ := 2 * h + 4

irreducible_def L (g : GSem nD τ sig) : Finset ℕ := if g.1.2 = .tc then Finset.range 64 else ∅
def lv (_ : GSem nD τ sig) (i : ℕ) : ℕ := i

theorem L_of_ne (g : GSem nD τ sig) (h : g.1.2 ≠ .tc) : L g = ∅ := by rw [L_def]; exact if_neg h

/-- Every due of `O` lies on a TensorCore's semaphore, above level `v`. -/
def Above (v : ℕ) (O : CellTallies nD τ sig ℕ) : Prop :=
  ∀ g i, 0 < O g i → g.1.2 = .tc ∧ v < i ∧ i < 64

theorem Above.zero (v : ℕ) : Above v 0 := fun g i h => absurd h (Nat.lt_irrefl 0)
theorem Above.add {v : ℕ} {O O' : CellTallies nD τ sig ℕ} (h : Above v O) (h' : Above v O') : Above v (O + O') := fun g i hg =>
  (Pipeline.add_pos_cases hg).elim (h g i) (h' g i)
theorem Above.tally {v : ℕ} (c : Dev nD) (sm : SemLoc sig) {i n : ℕ} (h : v < i) (h' : i < 64) : Above v (tallyAt ((c : Thread nD τ), sm) i n) :=
  fun g j hg => by
    obtain ⟨rfl, rfl⟩ := Pipeline.tallyAt_pos hg
    exact ⟨rfl, h, h'⟩
theorem Above.sum {v : ℕ} {α : Type} {s : Finset α} {D : α → CellTallies nD τ sig ℕ} (h : ∀ x ∈ s, Above v (D x)) : Above v (∑ x ∈ s, D x) :=
  fun g i hg => by
    obtain ⟨x, hx, hp⟩ := Pipeline.sum_pos_exists hg
    exact h x hx g i hp

omit [FloatOps F] in
theorem mayWait {c : Dev nD} {sm : SemLoc sig} {v : ℕ} {O : CellTallies nD τ sig ℕ} (hv : v < 64) (h : Above v O) :
    (levAts L lv : sProp 𝕄) ⊢ MayWait (c : Thread nD τ) sm v O :=
  Pipeline.mayWait_of_levAts (by rw [L_def, if_pos rfl]; exact Finset.mem_range.mpr hv)
    fun g i hg => by
      obtain ⟨h1, h2, h3⟩ := h g i hg
      exact ⟨by rw [L_def, if_pos h1]; exact Finset.mem_range.mpr h3, h2⟩

/-- What `c` owes in direction `b`: the arrivals of the hops from `i` on, and the credits from `j` on. -/
def dues (c : Dev nD) (b : Bool) (i j : ℕ) : CellTallies nD τ sig ℕ :=
  (∑ h ∈ Finset.Ico i (hops b), tallyAt (rcvC (dst b c) b (!par h)) (rcvLv h) N)
    + ∑ h ∈ Finset.Ico j (hops b - 1), tallyAt (crdC (src b c) b) (crdLv h) 1

theorem hops_le (b : Bool) : hops b ≤ 8 := by revert b; decide

theorem dues_above (c : Dev nD) (b : Bool) {i j v : ℕ} (hi : v < rcvLv i) (hj : v < crdLv j) : Above v (dues c b i j) := by
  have := hops_le b
  refine Above.add (Above.sum fun h hh => ?_) (Above.sum fun h hh => ?_) <;> rw [Finset.mem_Ico] at hh <;>
    exact Above.tally _ _ (by simp only [rcvLv, crdLv] at *; omega) (by simp only [rcvLv, crdLv] at *; omega)

theorem Ico_eq_insert {i n : ℕ} (h : i < n) : Finset.Ico i n = insert i (Finset.Ico (i + 1) n) := by
  ext x; simp only [Finset.mem_insert, Finset.mem_Ico]; omega
theorem not_mem_Ico_succ (i n : ℕ) : i ∉ Finset.Ico (i + 1) n := by
  simp only [Finset.mem_Ico]; omega

theorem dues_rcv (c : Dev nD) (b : Bool) {i : ℕ} (j : ℕ) (hi : i < hops b) :
    dues c b i j = dues c b (i + 1) j + tallyAt (rcvC (dst b c) b (!par i)) (rcvLv i) N := by
  unfold dues
  rw [Ico_eq_insert hi, Finset.sum_insert (not_mem_Ico_succ _ _), add_comm (tallyAt _ _ _), add_right_comm]
theorem dues_crd (c : Dev nD) (b : Bool) (i : ℕ) {j : ℕ} (hj : j + 1 < hops b) :
    dues c b i j = dues c b i (j + 1) + tallyAt (crdC (src b c) b) (crdLv j) 1 := by
  unfold dues
  rw [Ico_eq_insert (show j < hops b - 1 by omega), Finset.sum_insert (not_mem_Ico_succ _ _), add_comm (tallyAt _ _ _), add_assoc]
theorem dues_end (c : Dev nD) (b : Bool) {i j : ℕ} (hi : hops b ≤ i) (hj : hops b - 1 ≤ j) : dues c b i j = 0 := by
  unfold dues
  rw [Finset.Ico_eq_empty (by omega), Finset.Ico_eq_empty (by omega), Finset.sum_empty, Finset.sum_empty, add_zero]

/-- What `c` owes after its barrier signals, -/
def O₁ (c : Dev nD) : CellTallies nD τ sig ℕ := dues c false 0 0 + dues c true 0 0
/-- and at launch: the signal to the device before it is the first it gives. -/
def O₀ (c : Dev nD) : CellTallies nD τ sig ℕ :=
  (O₁ c + tallyAt (barC (dst false c)) 1 1) + tallyAt (barC (dst true c)) 1 1

theorem O₁_above (c : Dev nD) : Above 2 (O₁ c) := Above.add (dues_above c _ (by decide) (by decide)) (dues_above c _ (by decide) (by decide))
theorem O₀_above (c : Dev nD) : Above 0 (O₀ c) :=
  Above.add (Above.add (fun g i h => ⟨(O₁_above c g i h).1, Nat.lt_of_le_of_lt (Nat.zero_le _) (O₁_above c g i h).2.1, (O₁_above c g i h).2.2⟩)
    (Above.tally _ _ (by decide) (by decide))) (Above.tally _ _ (by decide) (by decide))

end Cert.MoeRing

end
-- ==== Proof.Steps.lean ====
/-
# `Steps`: the state of a direction between the hops, and the steps of a hop
-/
module

public import proofs.«01_k».proof.Proof.Sched

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The cells, their invariants and the levels: what every device knows -/

/-- The semaphore of a role on a device. -/
def cell (x : Dev nD × Role) : GSem nD τ sig := ((x.1 : Thread nD τ), x.2.sem)

variable (K : Dev nD × Role → ℕ)

def recs : sProp 𝕄 :=
  iprop((bigSep Finset.univ fun x : Dev nD × Role => cellInv ER (Rd m ρ) (K x) (cell x)) ∗ levAts L lv)

instance recs_persistent : BI.Persistent (recs (F := F) m ρ K) := by unfold recs; infer_instance

theorem inv_at (x : Dev nD × Role) : recs (F := F) m ρ K ⊢ cellInv ER (Rd m ρ) (K x) (cell x) := by
  unfold recs; iintro ⟨H, -⟩
  iapply (show (bigSep Finset.univ fun x : Dev nD × Role => (cellInv ER (Rd m ρ) (K x) (cell x) : sProp 𝕄))
    ⊢ cellInv ER (Rd m ρ) (K x) (cell x) from bigSep_elim (Finset.mem_univ x))
  iexact H

/-- The levels. -/
@[irreducible] def levs : sProp 𝕄 := levAts L lv
instance levs_persistent : BI.Persistent (levs (F := F)) := by unfold levs; infer_instance

theorem levs_of : recs (F := F) m ρ K ⊢ levs (F := F) := by unfold recs levs; iintro ⟨-, H⟩; iexact H

omit [FloatOps F] in
theorem may_wait {c : Dev nD} {sm : SemLoc sig} {v : ℕ} {O : CellTallies nD τ sig ℕ} (hv : v < 64) (h : Above v O) :
    levs (F := F) ⊢ MayWait (c : Thread nD τ) sm v O := by unfold levs; exact mayWait hv h

/-! ## The state of a direction -/

section State
variable (c : Dev nD) (b : Bool) (h : ℕ)

/-- The device stands before hop `h`'s round at its send semaphore of that hop's slot, -/
def sndAt : sProp 𝕄 := iprop(atPos ER (sndC c b (par h)) (h / 2) ∅ 0 ∗ reached ER (sndC c b (par h)) (h / 2))
/-- at its receive semaphore, -/
def rcvAt : sProp 𝕄 := iprop(atPos ER (rcvC c b (!par h)) (h / 2) ∅ 0 ∗ reached ER (rcvC c b (!par h)) (h / 2))
/-- and at its credit semaphore. -/
def crdAt : sProp 𝕄 := iprop(atPos ER (crdC c b) h ∅ 0 ∗ reached ER (crdC c b) h)

/-- The right to pay the duties of the hops from `h` on: of the sends, -/
def sndToks : sProp 𝕄 := bigSep (Finset.Ico h (hops b)) fun k => dutyTok ER (sndC c b (par k)) (k / 2) false
/-- of the arrivals at the next device, -/
def rcvToks : sProp 𝕄 := bigSep (Finset.Ico h (hops b)) fun k => dutyTok ER (rcvC (dst b c) b (!par k)) (k / 2) false
/-- and of the credits to the device before. -/
def crdToks : sProp 𝕄 := bigSep (Finset.Ico h (hops b - 1)) fun k => dutyTok ER (crdC (src b c) b) k false
/-- What is owed to the device: the arrivals of the hops from `h` on, -/
def rcvCreds : sProp 𝕄 := bigSep (Finset.Ico h (hops b)) fun k => cred (tallyAt (rcvC c b (!par k)) (rcvLv k) N)
/-- and the credits. -/
def crdCreds : sProp 𝕄 := bigSep (Finset.Ico h (hops b - 1)) fun k => cred (tallyAt (crdC c b) (crdLv k) 1)

/-- The right to write hop `h`'s copy: the slot it goes to, and that its device has come to that round. -/
def perm : sProp 𝕄 := iprop(slotAny (dst b c) b (!par h) ∗ reached ER (rcvC (dst b c) b (!par h)) (h / 2))

/-- Before hop `h`. -/
def Before : sProp 𝕄 :=
  iprop(sndAt c b h ∗ sndAt c b (h + 1) ∗ rcvAt c b h ∗ rcvAt c b (h + 1) ∗ crdAt c b (h - 1)
    ∗ sndToks c b h ∗ rcvToks c b h ∗ crdToks c b h ∗ rcvCreds c b h ∗ crdCreds c b (h - 1)
    ∗ slot c b (par h) fullShare (held m ρ c b h) ∗ (if h = 0 then perm c b 0 else iprop(emp)))
/-- With the credit of the hop before it taken. -/
def Ready : sProp 𝕄 :=
  iprop(sndAt c b h ∗ sndAt c b (h + 1) ∗ rcvAt c b h ∗ rcvAt c b (h + 1) ∗ crdAt c b h
    ∗ sndToks c b h ∗ rcvToks c b h ∗ crdToks c b h ∗ rcvCreds c b h ∗ crdCreds c b h
    ∗ slot c b (par h) fullShare (held m ρ c b h) ∗ perm c b h)
/-- With its copy under way: half the share of the slot is lent to it. -/
def Flying : sProp 𝕄 :=
  iprop(sndAt c b h ∗ sndAt c b (h + 1) ∗ rcvAt c b h ∗ rcvAt c b (h + 1) ∗ crdAt c b h
    ∗ sndToks c b (h + 1) ∗ rcvToks c b (h + 1) ∗ crdToks c b h ∗ rcvCreds c b h ∗ crdCreds c b h
    ∗ slot c b (par h) fullShare.right (held m ρ c b h) ∗ cred (tallyAt (sndC c b (par h)) 0 N))
/-- With its copy done and the one from the device before arrived. -/
def Arrived : sProp 𝕄 :=
  iprop(sndAt c b (h + 1) ∗ sndAt c b (h + 2) ∗ rcvAt c b (h + 1) ∗ rcvAt c b (h + 2) ∗ crdAt c b h
    ∗ sndToks c b (h + 1) ∗ rcvToks c b (h + 1) ∗ crdToks c b h ∗ rcvCreds c b (h + 1) ∗ crdCreds c b h
    ∗ slot c b (par h) fullShare (held m ρ c b h) ∗ slot c b (!par h) fullShare (held m ρ c b (h + 1)) ∗ reached ER (crdC (src b c) b) h)
/-- After the last hop. -/
def Done : sProp 𝕄 :=
  iprop(sndAt c b (hops b) ∗ sndAt c b (hops b + 1) ∗ rcvAt c b (hops b) ∗ rcvAt c b (hops b + 1) ∗ crdAt c b (hops b - 1)
    ∗ slot c b (par (hops b)) fullShare (held m ρ c b (hops b)) ∗ slotAny c b (!par (hops b)))

/-- The state at a trip: that of the hop, or the end's. -/
def StA : sProp 𝕄 := if h < hops b then Before m ρ c b h else Done m ρ c b
def StR : sProp 𝕄 := if h < hops b then Ready m ρ c b h else Done m ρ c b
def StF : sProp 𝕄 := if h < hops b then Flying m ρ c b h else Done m ρ c b
def StG : sProp 𝕄 := if h < hops b then Arrived m ρ c b h else Done m ρ c b

/-- What the device owes, whatever it has waited for. -/
def owesE (O : CellTallies nD τ sig ℕ) : sProp 𝕄 := iprop(∃ W, owes (c : Thread nD τ) O W)

end State

section Peel
variable (c : Dev nD) (b : Bool) {h : ℕ}

omit [FloatOps F] in
theorem peel {A : ℕ → sProp 𝕄} {i n : ℕ} (hi : i < n) : bigSep (Finset.Ico i n) A = iprop(A i ∗ bigSep (Finset.Ico (i + 1) n) A) := by
  rw [Ico_eq_insert hi, bigSep_insert (not_mem_Ico_succ i n)]; rfl

omit [FloatOps F] in
theorem sndToks_peel (hh : h < hops b) : sndToks (F := F) c b h = iprop(dutyTok ER (sndC c b (par h)) (h / 2) false ∗ sndToks c b (h + 1)) := peel hh
omit [FloatOps F] in
theorem rcvToks_peel (hh : h < hops b) :
    rcvToks (F := F) c b h = iprop(dutyTok ER (rcvC (dst b c) b (!par h)) (h / 2) false ∗ rcvToks c b (h + 1)) := peel hh
omit [FloatOps F] in
theorem crdToks_peel (hh : h + 1 < hops b) : crdToks (F := F) c b h = iprop(dutyTok ER (crdC (src b c) b) h false ∗ crdToks c b (h + 1)) :=
  peel (by omega)
omit [FloatOps F] in
theorem rcvCreds_peel (hh : h < hops b) :
    rcvCreds (F := F) c b h = iprop(cred (tallyAt (rcvC c b (!par h)) (rcvLv h) N) ∗ rcvCreds c b (h + 1)) := peel hh
omit [FloatOps F] in
theorem crdCreds_peel (hh : h + 1 < hops b) : crdCreds (F := F) c b h = iprop(cred (tallyAt (crdC c b) (crdLv h) 1) ∗ crdCreds c b (h + 1)) :=
  peel (by omega)

end Peel

/-! ## The steps -/

/-- The weakest precondition of a program of device `c`. -/
abbrev wpT (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD) (b : Bool) (h : ℕ)

/-- The wait for the credit of the hop before. -/
theorem step_credit {α : Type} {Q : α → sProp 𝕄} {p : Prop} [Decidable p] {f : p → Prog (TpuEff nD τ sig (Elt F) Λ₀ .tc) α} {g : ¬p → Prog (TpuEff nD τ sig (Elt F) Λ₀ .tc) α}
    {kk : Prog (TpuEff nD τ sig (Elt F) Λ₀ .tc) α} (hp : p ↔ 1 ≤ h ∧ h < hops b)
    (hf : ∀ x, f x = .op (.semWait (crdS b) ((1 : ℕ) : ℤ)) (fun _ => kk)) (hg : ∀ x, g x = kk)
    {R : CellTallies nD τ sig ℕ} (hR : 1 ≤ h → Above (crdLv (h - 1)) R) :
    iprop(recs m ρ K ∗ owesE c (dues c b h h + R) ∗ StA m ρ c b h)
      ⊢ iprop(((owesE c (dues c b h h + R) ∗ StR m ρ c b h) -∗ wpT c kk Q)
        -∗ wpT c (dite p f g) Q) := by
  unfold StA StR
  by_cases hh : h < hops b
  · rw [if_pos hh, if_pos hh]
    by_cases h0 : h = 0
    · have hn : ¬p := by rw [hp]; omega
      rw [dif_neg hn, hg]
      subst h0
      iintro ⟨-, HO, H⟩ Hk
      iapply Hk
      isplitl [HO]; · iexact HO
      unfold Before Ready
      rw [if_pos rfl]
      iexact H
    · have hp' : p := hp.mpr (by omega)
      rw [dif_pos hp', hf]
      obtain ⟨k, rfl⟩ : ∃ k, h = k + 1 := ⟨h - 1, by omega⟩
      replace hR := hR (by omega)
      unfold Before Ready owesE
      rw [if_neg h0]
      simp only [Nat.add_sub_cancel] at hR ⊢
      unfold crdAt
      rw [crdCreds_peel c b hh]
      have hk : 0 + 1 = (Rd (F := F) m ρ).expect (crdC c b) k := by rw [expect_crd m ρ c b hh]
      have hl : crdLv k < 64 := by have := hops_le b; simp only [crdLv]; omega
      have hmw := may_wait (F := F) (c := c) (sm := .reg (crdS b)) hl
        (Above.add (dues_above c b (i := k + 1) (j := k + 1) (by simp only [crdLv, rcvLv]; omega) (by simp only [crdLv]; omega)) hR)
      iintro ⟨#Hr, ⟨%W, HO⟩, H1, H2, H3, H4, ⟨Hat, -⟩, H6, H7, H8, H9, ⟨Hcr, H10⟩, H11, -⟩ Hk
      ihave #Hl := (levs_of m ρ K) $$ Hr
      ihave #Hi := (inv_at m ρ K (c, .crd b)) $$ Hr
      iapply (Rounds.wp_wait_rest_token 𝒱₀ ER (Rd m ρ) (c : Thread nD τ) none (κ := K (c, .crd b))
        (wpE_semWait_eq 𝒱₀ (c : Thread nD τ) none Set.univ) (Set.mem_univ _) (crdLv k) (O := dues c b (k + 1) (k + 1) + R) (W := W) (R := k) (m := 0) (T := ∅)
        hk) $$ [Hcr HO Hat]
      · isplitr; · iexact Hi
        isplitl [Hcr]; · iexact Hcr
        isplitl [HO]; · iexact HO
        isplitr
        · iapply hmw; iexact Hl
        iexact Hat
      iintro ⟨HO, Hat, #Hre, Hpay⟩
      have e := rest_crd m ρ c b hh
      ihave Hp := (Entails.of_eq e) $$ Hpay
      unfold crdPay
      iapply Hk
      isplitl [HO]; · iexists (insert (SemLoc.reg (crdS b), crdLv k) W); iexact HO
      isplitl [H1]; · iexact H1
      isplitl [H2]; · iexact H2
      isplitl [H3]; · iexact H3
      isplitl [H4]; · iexact H4
      isplitl [Hat]
      · isplitl [Hat]; · iexact Hat
        iexact Hre
      isplitl [H6]; · iexact H6
      isplitl [H7]; · iexact H7
      isplitl [H8]; · iexact H8
      isplitl [H9]; · iexact H9
      isplitl [H10]; · iexact H10
      isplitl [H11]; · iexact H11
      unfold perm
      rw [par_succ, Bool.not_not]
      iexact Hp
  · have hn : ¬p := by rw [hp]; omega
    rw [if_neg hh, if_neg hh, dif_neg hn, hg]
    iintro ⟨-, HO, H⟩ Hk
    iapply Hk
    isplitl [HO] <;> iassumption

/-- A program that starts with the copy of hop `h`, and goes on with `kk`. -/
inductive IsSend (c : Dev nD) (b : Bool) (h : ℕ) {α : Type} :
    Prog (TpuEff nD τ sig (Elt F) Λ₀ .tc) α → Prog (TpuEff nD τ sig (Elt F) Λ₀ .tc) α → Prop
  | mk (s : Memref sig .tc .vmem S4x512x1024 .bf16) (n : Dev nD) (d : Memref sig .tc .vmem S4x512x1024 .bf16) (sS sR : DmaSem sig)
      (hsc : d.view.ref.isScScratch = false) (h1 : s.view.WordExact) (h2 : d.view.WordExact)
      (h3 : DmaTarget.Typed .vmem (.dma sR) (.remote (Dev.tc n : Thread nD τ) d (.dma sS) hsc)) (kk : Prog (TpuEff nD τ sig (Elt F) Λ₀ .tc) α)
      (es : s = slotM b (par h)) (en : n = dst b c) (ed : d = slotM b (!par h)) (eS : sS = sndS b (par h)) (eR : sR = rcvS b (!par h)) :
      IsSend c b h (.op (.enqueueDma s (.remote (Dev.tc n : Thread nD τ) d (.dma sS) hsc) (.dma sR) h1 h2 h3) (fun _ => kk)) kk

/-- The start of hop `h`'s copy. -/
theorem step_send {α : Type} {Q : α → sProp 𝕄} {p : Prop} [Decidable p] {f : p → Prog (TpuEff nD τ sig (Elt F) Λ₀ .tc) α} {g : ¬p → Prog (TpuEff nD τ sig (Elt F) Λ₀ .tc) α}
    {kk : Prog (TpuEff nD τ sig (Elt F) Λ₀ .tc) α} (hp : p ↔ h < hops b)
    (hf : ∀ x, IsSend c b h (f x) kk) (hg : ∀ x, g x = kk) {R : CellTallies nD τ sig ℕ} :
    iprop(recs m ρ K ∗ owesE c (dues c b h h + R) ∗ StR m ρ c b h)
      ⊢ iprop(((owesE c (dues c b (h + 1) h + R) ∗ StF m ρ c b h) -∗ wpT c kk Q) -∗ wpT c (dite p f g) Q) := by
  unfold StR StF
  by_cases hh : h < hops b
  · rw [if_pos hh, if_pos hh]
    have hp' : p := hp.mpr hh
    rw [dif_pos hp']
    have hs := hf hp'
    generalize f hp' = P at hs
    obtain ⟨s, n, d, sS, sR, hsc, h1, h2, h3, -, es, en, ed, eS, eR⟩ := hs
    subst es en ed eS eR
    unfold Ready Flying owesE
    rw [sndToks_peel c b hh, rcvToks_peel c b hh, dues_rcv c b h hh]
    have hO : dues c b (h + 1) h + tallyAt (rcvC (dst b c) b (!par h)) (rcvLv h) N + R
      = (dues c b (h + 1) h + R) + tallyAt (rcvC (dst b c) b (!par h)) (rcvLv h) N := add_right_comm _ _ _
    have hd₁ : false ∈ (Rd (F := F) m ρ).duties (sndC c b (par h)) (h / 2) := by rw [duties_snd m ρ c b hh]; exact Finset.mem_singleton_self _
    have hd₂ : false ∈ (Rd (F := F) m ρ).duties (rcvC (dst b c) b (!par h)) (h / 2) := by
      rw [duties_rcv m ρ (dst b c) b hh]; exact Finset.mem_singleton_self _
    have hN : (slotM b (!par h)).view.amount (.dma (rcvS b (!par h))) = N := slotM_credit b _
    have ha₁ := amount_snd (F := F) m ρ c b (par h) false (h / 2)
    have ha₂ := amount_rcv (F := F) m ρ (dst b c) b (!par h) false (h / 2)
    have hpay₁ : ∀ fs, (slotM b (par h)).view.read (Elt F) fs = held m ρ c b h →
        (((slotM b (par h)).view.loc (c : Thread nD τ) ↦[(slotM b (par h)).view.set]{fullShare.left} fs) : sProp 𝕄)
          ⊢ (Rd (F := F) m ρ).payload (sndC c b (par h)) (h / 2) false := fun fs hfs => by
      rw [payload_snd]
      unfold sndPay slot
      rw [← hfs]
      exact owns_intro (c : Thread nD τ) (slotM b (par h)) fullShare.left fs
    have hpay₂ : ∀ fs fd, (slotM b (par h)).view.read (Elt F) fs = held m ρ c b h →
        (iprop(((slotM b (!par h)).view.loc ((dst b c : Dev nD) : Thread nD τ) ↦[(slotM b (!par h)).view.set]{fullShare}
            ((slotM b (!par h)).view.write (Elt F) fd ((slotM b (par h)).view.read (Elt F) fs) Finset.univ)) ∗ reached ER (crdC c b) h) : sProp 𝕄)
          ⊢ (Rd (F := F) m ρ).payload (rcvC (dst b c) b (!par h)) (h / 2) false := fun fs fd hfs => by
      rw [payload_rcv]
      unfold rcvPay slot held
      rw [origin_dst, src_dst, hfs]
      unfold held
      refine sep_mono_left ?_
      have e := View.read_write_univ (v := (slotM b (!par h)).view) (Val := Elt F) fd (wBlk m ρ (origin b h c))
      conv_rhs => rw [← e]
      exact owns_intro ((dst b c : Dev nD) : Thread nD τ) (slotM b (!par h)) fullShare _
    have es : sndAt (F := F) c b h = iprop(atPos ER (sndC c b (par h)) (h / 2) ∅ 0 ∗ reached ER (sndC c b (par h)) (h / 2)) := rfl
    rw [es]
    unfold crdAt perm slotAny
    iintro ⟨#Hr, ⟨%W, HO⟩, ⟨H1, #Hs1⟩, H2, H3, H4, ⟨H5, #Hc5⟩, ⟨Ht6, H6⟩, ⟨Ht7, H7⟩, H8, H9, H10, H11, ⟨⟨%X, Hd⟩, #Hv⟩⟩ Hk
    ihave #Hi := (inv_at m ρ K (c, .snd b (par h))) $$ Hr
    ihave #Hj := (inv_at m ρ K (dst b c, .rcv b (!par h))) $$ Hr
    unfold slot
    ihave Hh := (owns_halves (c : Thread nD τ) (slotM b (par h)) fullShare (held m ρ c b h)).1 $$ H11
    icases Hh with ⟨Hl, H11⟩
    unfold owns
    icases Hl with ⟨%fs, %hfs, Hl⟩
    icases Hd with ⟨%fd, -, Hd⟩
    iapply (Rounds.wp_send_pointsTo_with 𝒱₀ ER (Rd m ρ) (c : Thread nD τ) none (c' := ((dst b c : Dev nD) : Thread nD τ)) (src := slotM b (par h)) (dst := slotM b (!par h)) (sS := .dma (sndS b (par h))) (sem := .dma (rcvS b (!par h))) (κ₁ := K (c, .snd b (par h))) (κ₂ := K (dst b c, .rcv b (!par h)))
      (r₁ := h / 2) (r₂ := h / 2) (d₁ := false) (d₂ := false) (fs := fs) (fd := fd) (q := fullShare.left)
      hd₁ hd₂ (rcvLv h) 0 N hN ha₁ ha₂
      (dues c b (h + 1) h + R) hO (W := W) (hpay₁ fs hfs) (hpay₂ fs fd hfs)) $$ [Hl Hd HO Ht6 Ht7]
    · isplitr; · iexact Hi
      isplitr; · iexact Hj
      isplitl [Hl]; · iexact Hl
      isplitl [Hd]
      · isplitl [Hd]; · iexact Hd
        iexact Hc5
      isplitl [HO]; · iexact HO
      isplitl [Ht6]; · iexact Ht6
      isplitr; · iexact Hs1
      isplitl [Ht7]; · iexact Ht7
      iexact Hv
    iintro ⟨Hcr, HO⟩
    iapply Hk
    isplitl [HO]; · iexists W; iexact HO
    isplitl [H1]
    · isplitl [H1]; · iexact H1
      iexact Hs1
    isplitl [H2]; · iexact H2
    isplitl [H3]; · iexact H3
    isplitl [H4]; · iexact H4
    isplitl [H5]
    · isplitl [H5]; · iexact H5
      iexact Hc5
    isplitl [H6]; · iexact H6
    isplitl [H7]; · iexact H7
    isplitl [H8]; · iexact H8
    isplitl [H9]; · iexact H9
    isplitl [H10]; · iexact H10
    isplitl [H11]; · iexact H11
    iexact Hcr
  · have hn : ¬p := by rw [hp]; omega
    rw [if_neg hh, if_neg hh, dif_neg hn, hg]
    rw [dues_end c b (i := h) (j := h) (by omega) (by omega), dues_end c b (i := h + 1) (j := h) (by omega) (by omega)]
    iintro ⟨-, HO, H⟩ Hk
    iapply Hk
    isplitl [HO] <;> iassumption

/-- A program that starts with the two waits of hop `h`'s copies, and goes on with `kk`. -/
inductive IsWait (b : Bool) (h : ℕ) {α : Type} :
    Prog (TpuEff nD τ sig (Elt F) Λ₀ .tc) α → Prog (TpuEff nD τ sig (Elt F) Λ₀ .tc) α → Prop
  | mk (s d s' d' : Memref sig .tc .vmem S4x512x1024 .bf16) (sS sR : DmaSem sig)
      (h1 : s.view.WordExact) (h2 : d.view.WordExact) (h3 : s'.view.WordExact) (h4 : d'.view.WordExact) (kk : Prog (TpuEff nD τ sig (Elt F) Λ₀ .tc) α)
      (ed : d.view.dmaCredit = N) (ed' : d'.view.dmaCredit = N) (eS : sS = sndS b (par h)) (eR : sR = rcvS b (!par h)) :
      IsWait b h (.op (.waitDma2 sS s d h1 h2) (fun _ => .op (.waitDma2 sR s' d' h3 h4) (fun _ => kk))) kk

theorem sndAt_next (c : Dev nD) (b : Bool) (h : ℕ) : sndAt (F := F) c b (h + 2) = iprop(atPos ER (sndC c b (par h)) (h / 2 + 1) ∅ 0 ∗ reached ER (sndC c b (par h)) (h / 2 + 1)) := by
  unfold sndAt; rw [par_add_two, show (h + 2) / 2 = h / 2 + 1 by omega]
theorem rcvAt_next (c : Dev nD) (b : Bool) (h : ℕ) : rcvAt (F := F) c b (h + 2) = iprop(atPos ER (rcvC c b (!par h)) (h / 2 + 1) ∅ 0 ∗ reached ER (rcvC c b (!par h)) (h / 2 + 1)) := by
  unfold rcvAt; rw [par_add_two, show (h + 2) / 2 = h / 2 + 1 by omega]

/-- The end of hop `h`'s copies: the device's own is done, and the one from the device before has arrived. -/
theorem step_wait {α : Type} {Q : α → sProp 𝕄} {p : Prop} [Decidable p] {f : p → Prog (TpuEff nD τ sig (Elt F) Λ₀ .tc) α} {g : ¬p → Prog (TpuEff nD τ sig (Elt F) Λ₀ .tc) α}
    {kk : Prog (TpuEff nD τ sig (Elt F) Λ₀ .tc) α} (hp : p ↔ h < hops b)
    (hf : ∀ x, IsWait b h (f x) kk) (hg : ∀ x, g x = kk) {R : CellTallies nD τ sig ℕ} (hR : Above (rcvLv h) R) :
    iprop(recs m ρ K ∗ owesE c (dues c b (h + 1) h + R) ∗ StF m ρ c b h)
      ⊢ iprop(((owesE c (dues c b (h + 1) h + R) ∗ StG m ρ c b h) -∗ wpT c kk Q) -∗ wpT c (dite p f g) Q) := by
  unfold StF StG
  by_cases hh : h < hops b
  · rw [if_pos hh, if_pos hh]
    have hp' : p := hp.mpr hh
    rw [dif_pos hp']
    have hs := hf hp'
    generalize f hp' = P at hs
    obtain ⟨s, d, s', d', sS, sR, h1, h2, h3, h4, -, ed, ed', eS, eR⟩ := hs
    subst eS eR
    unfold Flying Arrived owesE
    rw [rcvCreds_peel c b hh, sndAt_next, rcvAt_next]
    have hab : Above (rcvLv h) (dues c b (h + 1) h + R) :=
      Above.add (dues_above c b (by simp only [rcvLv]; omega) (by simp only [crdLv, rcvLv]; omega)) hR
    have hab0 : Above 0 (dues c b (h + 1) h + R) := fun g i hg => ⟨(hab g i hg).1, Nat.lt_of_le_of_lt (Nat.zero_le _) (hab g i hg).2.1, (hab g i hg).2.2⟩
    have hm0 := may_wait (F := F) (c := c) (sm := .dma (sndS b (par h))) (by decide) hab0
    have hl : rcvLv h < 64 := by have := hops_le b; simp only [rcvLv]; omega
    have hm1 := may_wait (F := F) (c := c) (sm := .dma (rcvS b (!par h))) hl hab
    have hk0 : 0 + d.view.dmaCredit = (Rd (F := F) m ρ).expect (sndC c b (par h)) (h / 2) := by rw [expect_snd m ρ c b hh, ed, Nat.zero_add]
    have hk1 : 0 + d'.view.dmaCredit = (Rd (F := F) m ρ).expect (rcvC c b (!par h)) (h / 2) := by rw [expect_rcv m ρ c b hh, ed', Nat.zero_add]
    iintro ⟨#Hr, ⟨%W, HO⟩, H1, H2, H3, H4, H5, H6, H7, H8, ⟨Hcr, H9⟩, H10, H11, Hcs⟩ Hk
    unfold sndAt
    icases H1 with ⟨H1, -⟩
    ihave #Hi := (inv_at m ρ K (c, .snd b (par h))) $$ Hr
    ihave #Hj := (inv_at m ρ K (c, .rcv b (!par h))) $$ Hr
    ihave #Hl := (levs_of m ρ K) $$ Hr
    rw [← ed]
    iapply (Rounds.wp_wait_rest_token 𝒱₀ ER (Rd m ρ) (c : Thread nD τ) none (κ := K (c, .snd b (par h)))
      (wpE_waitDma2_eq 𝒱₀ (c : Thread nD τ) none Set.univ) (Set.mem_univ _) 0 (O := dues c b (h + 1) h + R) (W := W) (R := h / 2) (m := 0) (T := ∅)
      hk0) $$ [Hcs HO H1]
    · isplitr; · iexact Hi
      isplitl [Hcs]; · iexact Hcs
      isplitl [HO]; · iexact HO
      isplitr; · iapply hm0; iexact Hl
      iexact H1
    iintro ⟨HO, H1, #Hs1, Hpay⟩
    have e1 := rest_snd m ρ c b hh
    ihave Hl11 := (Entails.of_eq e1) $$ Hpay
    unfold sndPay slot
    unfold rcvAt
    icases H3 with ⟨H3, -⟩
    rw [ed, ← ed']
    iapply (Rounds.wp_wait_rest_token 𝒱₀ ER (Rd m ρ) (c : Thread nD τ) none (κ := K (c, .rcv b (!par h)))
      (wpE_waitDma2_eq 𝒱₀ (c : Thread nD τ) none Set.univ) (Set.mem_univ _) (rcvLv h) (O := dues c b (h + 1) h + R) (W := insert (SemLoc.dma (sndS b (par h)), 0) W) (R := h / 2) (m := 0) (T := ∅)
      hk1) $$ [Hcr HO H3]
    · isplitr; · iexact Hj
      isplitl [Hcr]; · iexact Hcr
      isplitl [HO]; · iexact HO
      isplitr; · iapply hm1; iexact Hl
      iexact H3
    iintro ⟨HO, H3, #Hs3, Hpay⟩
    have e2 := rest_rcv m ρ c b hh
    ihave Hp := (Entails.of_eq e2) $$ Hpay
    unfold rcvPay slot
    icases Hp with ⟨H12, #Hrs⟩
    iapply Hk
    isplitl [HO]; · iexists (insert (SemLoc.dma (rcvS b (!par h)), rcvLv h) (insert (SemLoc.dma (sndS b (par h)), 0) W)); iexact HO
    isplitl [H2]; · iexact H2
    isplitl [H1]
    · isplitl [H1]; · iexact H1
      iexact Hs1
    isplitl [H4]; · iexact H4
    isplitl [H3]
    · isplitl [H3]; · iexact H3
      iexact Hs3
    isplitl [H5]; · iexact H5
    isplitl [H6]; · iexact H6
    isplitl [H7]; · iexact H7
    isplitl [H8]; · iexact H8
    isplitl [H9]; · iexact H9
    isplitl [H10]; · iexact H10
    isplitl [Hl11 H11]
    · iapply (owns_halves (c : Thread nD τ) (slotM b (par h)) fullShare (held m ρ c b h)).2
      isplitl [Hl11] <;> iassumption
    isplitl [H12]; · iexact H12
    iexact Hrs
  · have hn : ¬p := by rw [hp]; omega
    rw [if_neg hh, if_neg hh, dif_neg hn, hg]
    iintro ⟨-, HO, H⟩ Hk
    iapply Hk
    isplitl [HO] <;> iassumption

/-- The credit for hop `h`: the slot that the device has done with goes back to the device before it. -/
theorem step_signal {α : Type} {Q : α → sProp 𝕄} {p : Prop} [Decidable p] {f : p → Prog (TpuEff nD τ sig (Elt F) Λ₀ .tc) α} {g : ¬p → Prog (TpuEff nD τ sig (Elt F) Λ₀ .tc) α}
    {kk : Prog (TpuEff nD τ sig (Elt F) Λ₀ .tc) α} (hp : p ↔ h + 1 < hops b)
    (hf : ∀ x, ∃ n : Dev nD, n = src b c ∧ f x = .op (.semSignal (Dev.tc n : Thread nD τ) (crdS b) ((1 : ℕ) : ℤ)) (fun _ => kk)) (hg : ∀ x, g x = kk) {R : CellTallies nD τ sig ℕ} :
    iprop(recs m ρ K ∗ owesE c (dues c b (h + 1) h + R) ∗ StG m ρ c b h)
      ⊢ iprop(((owesE c (dues c b (h + 1) (h + 1) + R) ∗ StA m ρ c b (h + 1)) -∗ wpT c kk Q) -∗ wpT c (dite p f g) Q) := by
  unfold StG StA
  by_cases hh : h + 1 < hops b
  · have hh' : h < hops b := by omega
    rw [if_pos hh', if_pos hh]
    have hp' : p := hp.mpr hh
    rw [dif_pos hp']
    obtain ⟨n, rfl, e⟩ := hf hp'
    rw [e]
    unfold Arrived Before owesE
    rw [crdToks_peel c b hh, dues_crd c b (h + 1) hh, if_neg (Nat.succ_ne_zero h)]
    have hO : dues c b (h + 1) (h + 1) + tallyAt (crdC (src b c) b) (crdLv h) 1 + R
      = (dues c b (h + 1) (h + 1) + R) + tallyAt (crdC (src b c) b) (crdLv h) 1 := add_right_comm _ _ _
    have hd : false ∈ (Rd (F := F) m ρ).duties (crdC (src b c) b) h := by rw [duties_crd m ρ (src b c) b hh]; exact Finset.mem_singleton_self _
    have es : rcvAt (F := F) c b (h + 1) = iprop(atPos ER (rcvC c b (!par (h + 1))) ((h + 1) / 2) ∅ 0 ∗ reached ER (rcvC c b (!par (h + 1))) ((h + 1) / 2)) := rfl
    rw [es]
    iintro ⟨#Hr, ⟨%W, HO⟩, H1, H2, ⟨H3, #Hr3⟩, H4, H5, H6, H7, ⟨Ht8, H8⟩, H9, H10, H11, H12, #Hrs⟩ Hk
    ihave #Hi := (inv_at m ρ K (src b c, .crd b)) $$ Hr
    iapply (Rounds.wp_signal 𝒱₀ ER (Rd m ρ) (c : Thread nD τ) none (dst := ((src b c : Dev nD) : Thread nD τ)) (κ := K (src b c, .crd b))
      (d := false) hd (amount_crd m ρ (src b c) b false h) (crdLv h) (dues c b (h + 1) (h + 1) + R) hO (W := W)) $$ [HO Ht8 H11]
    · isplitr; · iexact Hi
      isplitl [HO]; · iexact HO
      isplitl [Ht8]; · iexact Ht8
      isplitl [H11]
      · rw [payload_crd]
        unfold crdPay slotAny
        rw [dst_src]
        rw [par_succ, Bool.not_not]
        isplitl [H11]; · iexists (held m ρ c b h); iexact H11
        iexact Hr3
      iexact Hrs
    iintro HO
    iapply Hk
    isplitl [HO]; · iexists W; iexact HO
    isplitl [H1]; · iexact H1
    isplitl [H2]; · iexact H2
    isplitl [H3]
    · isplitl [H3]; · iexact H3
      iexact Hr3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]
    · rw [par_succ]; iexact H12
    iempintro
  · have hn : ¬p := by rw [hp]; omega
    rw [if_neg hh, dif_neg hn, hg]
    by_cases hh' : h < hops b
    · obtain rfl : h = hops b - 1 := by omega
      have hb : 1 ≤ hops b := by omega
      rw [if_pos hh']
      unfold Arrived Done slotAny
      rw [show hops b - 1 + 1 = hops b by omega, show hops b - 1 + 2 = hops b + 1 by omega, par_pred hb]
      rw [Bool.not_not]
      unfold dues
      rw [Finset.Ico_self, show Finset.Ico (hops b) (hops b - 1) = ∅ from Finset.Ico_eq_empty (by omega)]
      rw [Finset.Ico_self]
      iintro ⟨-, HO, H1, H2, H3, H4, H5, H6, H7, H8, H9, H10, H11, H12, -⟩ Hk
      iapply Hk
      isplitl [HO]; · iexact HO
      isplitl [H1]; · iexact H1
      isplitl [H2]; · iexact H2
      isplitl [H3]; · iexact H3
      isplitl [H4]; · iexact H4
      isplitl [H5]; · iexact H5
      isplitl [H12]; · iexact H12
      iexists (held m ρ c b (hops b - 1)); iexact H11
    · rw [if_neg hh', dues_end c b (i := h + 1) (j := h) (by omega) (by omega), dues_end c b (i := h + 1) (j := h + 1) (by omega) (by omega)]
      iintro ⟨-, HO, H⟩ Hk
      iapply Hk
      isplitl [HO] <;> iassumption

end Steps

end Cert.MoeRing

end
-- ==== Proof.Facts.lean ====
/-
# `Facts`: the conditions, offsets and neighbours the kernel computes, at each trip

The printed words are computed at each of the nine trips (and each of the sixteen devices): a condition
is a bound on the hop, an offset is the slot of the hop's parity, a neighbour is the device one place on.
-/
module

public import proofs.«01_k».proof.Proof.Steps

@[expose] public section

noncomputable section

namespace Cert.MoeRing

open Cert.KernelIdeal Cert.KernelIdeal.Gen

open Idealize.ShloMosaic
open Idealize.ShloMosaic.TcCoe

/-! ## Conditions -/

section Cond
variable (t : Fin k0_t1_loop.trips)

theorem cond1 : Scalar.cmpi .ne (Scalar.extui (Scalar.andi (Scalar.cmpi .sge (Scf.iv 0#32 1#32 t) 1#32) (Scalar.cmpi .slt (Scf.iv 0#32 1#32 t) 8#32)) : BitVec 32) 0#32 = 1#1
    ↔ 1 ≤ t.val ∧ t.val < hops false := by revert t; decide +kernel
theorem cond2 : k0_cond2 t = 1#1 ↔ t.val < hops false := by revert t; decide +kernel
theorem cond3 : Scalar.cmpi .ne (Scalar.extui (Scalar.andi (Scalar.cmpi .sge (Scf.iv 0#32 1#32 t) 1#32) (Scalar.cmpi .slt (Scf.iv 0#32 1#32 t) 7#32)) : BitVec 32) 0#32 = 1#1
    ↔ 1 ≤ t.val ∧ t.val < hops true := by revert t; decide +kernel
theorem cond4 : k0_cond4 t = 1#1 ↔ t.val < hops true := by revert t; decide +kernel
theorem cond5 : k0_cond5 t = 1#1 ↔ 1 ≤ t.val ∧ t.val ≤ hops true := by revert t; decide +kernel
theorem cond6 : k0_cond6 t = 1#1 ↔ t.val < hops false := by revert t; decide +kernel
theorem cond7 : k0_cond7 t = 1#1 ↔ t.val + 1 < hops false := by revert t; decide +kernel
theorem cond8 : k0_cond8 t = 1#1 ↔ t.val < hops true := by revert t; decide +kernel
theorem cond9 : k0_cond9 t = 1#1 ↔ t.val + 1 < hops true := by revert t; decide +kernel

/-! ## Slots -/

theorem off3 : k0_off3 t = slotOff (!par t.val) := by revert t; decide +kernel
theorem off4 : k0_off4 t = slotOff (par t.val) := by revert t; decide +kernel
theorem off7 : k0_off7 t = slotOff (!par t.val) := by revert t; decide +kernel
theorem off8 : k0_off8 t = slotOff (par t.val) := by revert t; decide +kernel

/-! ## Semaphores of the slots -/

theorem off1 : k0_off1 t = ![(par t.val).toNat] := by revert t; decide +kernel
theorem off2 : k0_off2 t = ![(!par t.val).toNat] := by revert t; decide +kernel
theorem off5 : k0_off5 t = ![(par t.val).toNat] := by revert t; decide +kernel
theorem off6 : k0_off6 t = ![(!par t.val).toNat] := by revert t; decide +kernel
theorem off11 : k0_off11 t = ![(par t.val).toNat] := by revert t; decide +kernel
theorem off14 : k0_off14 t = ![(!par t.val).toNat] := by revert t; decide +kernel
theorem off15 : k0_off15 t = ![(par t.val).toNat] := by revert t; decide +kernel
theorem off18 : k0_off18 t = ![(!par t.val).toNat] := by revert t; decide +kernel

/-! ## The block of a slot -/

/-- The offsets of one block of a slot. -/
def matOff (s : Bool) (e : ℕ) : Fin 4 → ℕ := ![s.toNat, e, 0, 0]

theorem off9 (e : Fin k0_t2_loop.trips) : k0_off9 t e = matOff (par t.val) e.val := by revert t e; decide +kernel
theorem off10 (e : Fin k0_t3_loop.trips) : k0_off10 t e = matOff (par t.val) e.val := by revert t e; decide +kernel

end Cond

/-! ## The semaphore picked from an array of two -/

section Sem
variable {off : Fin 1 → ℕ} (s : Bool) (h : ∀ a, off a + S1.size a ≤ S2.size a) (e : off = ![s.toNat])
include e

theorem snd_r : ((cc0_scratch1.slice (Rect.unit (s := S2) off S1.size h)).squeeze S_ squeezes_S1_S_).sem = sndS false s := by
  subst e; revert h; cases s <;> decide +kernel
theorem rcv_r : ((cc0_scratch2.slice (Rect.unit (s := S2) off S1.size h)).squeeze S_ squeezes_S1_S_).sem = rcvS false s := by
  subst e; revert h; cases s <;> decide +kernel
theorem snd_l : ((cc0_scratch5.slice (Rect.unit (s := S2) off S1.size h)).squeeze S_ squeezes_S1_S_).sem = sndS true s := by
  subst e; revert h; cases s <;> decide +kernel
theorem rcv_l : ((cc0_scratch6.slice (Rect.unit (s := S2) off S1.size h)).squeeze S_ squeezes_S1_S_).sem = rcvS true s := by
  subst e; revert h; cases s <;> decide +kernel

end Sem

/-! ## Neighbours -/

theorem dev1 (c : Dev nD) : (⟨k0_dev1 c, k0_dev1_lt c⟩ : Dev nD) = dst true c := by revert c; decide +kernel
theorem dev2 (c : Dev nD) : (⟨k0_dev2 c, k0_dev2_lt c⟩ : Dev nD) = dst false c := by revert c; decide +kernel
theorem dev3 (c : Dev nD) (h) : (⟨k0_dev3 c, h⟩ : Dev nD) = dst false c := by revert c; decide +kernel
theorem dev4 (c : Dev nD) (h) : (⟨k0_dev4 c, h⟩ : Dev nD) = dst true c := by revert c; decide +kernel
theorem dev5 (c : Dev nD) (h) : (⟨k0_dev5 c, h⟩ : Dev nD) = src false c := by revert c; decide +kernel
theorem dev6 (c : Dev nD) (h) : (⟨k0_dev6 c, h⟩ : Dev nD) = src true c := by revert c; decide +kernel

/-- Every slice of a slot's size credits the same. -/
theorem slotAt_credit (b : Bool) (off : Fin 4 → ℕ) (h) : (slotAt b off h).view.dmaCredit = N := by rw [N_def]

end Cert.MoeRing

end
-- ==== Proof.Compute.lean ====
/-
# `Compute`: one load of an expert's matrix, and what a hop adds to the result

A slot holds the four expert matrices of one device. A load of one of them reads that matrix; the body of
either inner loop adds to the result the product with it of the rows routed to that expert.
-/
module

public import proofs.«01_k».proof.Proof.Facts
public import Idealize.ShloMosaic.Lib.ValueLayout
public import Idealize.ShloMosaic.Lib.Scf

@[expose] public section

noncomputable section

namespace Cert.MoeRing

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The load of one matrix -/

/-- One of the four matrices of a slot. -/
def mat (X : Vec F S4x512x1024 .bf16) (e : Fin 4) : Vec F S1x1x512x1024 .bf16 := fun i => X (ix3 e (i 2) (i 3))

/-- Where the matrix lies in the buffer: in its slot, at its place. -/
theorem mat_emb {s : Bool} {e : Fin 4} {off : Fin 4 → ℕ} (eo : off = matOff s e.val) {h} (i : S1x1x512x1024.Idx) :
    (Rect.unit (s := S2x4x512x1024) off S1x1x512x1024.size h).emb i
      = (Rect.unit (s := S2x4x512x1024) (slotOff s) S1x4x512x1024.size (slotOff_inb s)).emb
          (Shape.reshapeEquiv (squeezes_S1x4x512x1024_S4x512x1024).numel_eq (ix3 e (i 2) (i 3))) := by
  subst eo
  have hr : (Shape.reshapeEquiv (squeezes_S1x4x512x1024_S4x512x1024).numel_eq (ix3 e (i 2) (i 3)) : S1x4x512x1024.Idx) = ix4 (0 : Fin 1) e (i 2) (i 3) :=
    reshapeEquiv_ix3_1abc ..
  refine Eq.trans ?_ (congrArg _ hr.symm)
  funext a; apply Fin.ext
  rw [Rect.emb_apply]
  have h0 : (i 0).val = 0 := by have := (i 0).isLt; change (i 0).val < 1 at this; omega
  have h1 : (i 1).val = 0 := by have := (i 1).isLt; change (i 1).val < 1 at this; omega
  fin_cases a
  · show s.toNat + 1 * (i 0).val = s.toNat + 1 * 0
    rw [h0]
  · show e.val + 1 * (i 1).val = 0 + 1 * e.val
    rw [h1]; omega
  · rfl
  · rfl

theorem mat_read {b s : Bool} {e : Fin 4} {off : Fin 4 → ℕ} (eo : off = matOff s e.val) {h} (f : (comM b).view.ty.Contents (Elt F)) :
    ((comM b).access (Rect.unit (s := S2x4x512x1024) off S1x1x512x1024.size h)).read (Elt F) f = mat ((slotM b s).view.read (Elt F) f) e := by
  funext i
  exact congrArg ((comM b).view.read (Elt F) f) (mat_emb eo i)

theorem mat_set {b s : Bool} {e : Fin 4} {off : Fin 4 → ℕ} (eo : off = matOff s e.val) {h} :
    ((comM b).access (Rect.unit (s := S2x4x512x1024) off S1x1x512x1024.size h)).set ⊆ (slotM b s).view.set := by
  intro x hx
  obtain ⟨i, -, rfl⟩ := Finset.mem_map.mp hx
  refine Finset.mem_map.mpr ⟨ix3 e (i 2) (i 3), Finset.mem_univ _, ?_⟩
  exact congrArg (comM b).view.emb (mat_emb eo i).symm

section Steps
variable (c : Dev nD)

/-- The load of a matrix of a slot the device holds a share of. -/
theorem load_mat (b s : Bool) {q : PosShare TreeShare} {X : Vec F S4x512x1024 .bf16} {e : Fin 4} {off : Fin 4 → ℕ} (eo : off = matOff s e.val) {h}
    {hl} {α : Type} {Q : α → sProp 𝕄} {kk : Vec F S1x1x512x1024 .bf16 → Prog (TpuEff nD τ sig (Elt F) Λ₀ .tc) α} :
    slot (F := F) c b s q X
      ⊢ iprop((slot (F := F) c b s q X -∗ wpT c (kk (mat X e)) Q)
        -∗ wpT c (.op (.load (comM b) (Rect.unit (s := S2x4x512x1024) off S1x1x512x1024.size h).toLoadRect hl) kk) Q) := by
  unfold slot owns
  iintro ⟨%f, %hf, H⟩ Hk
  ihave H := (show ((slotM b s).view.loc (c : Thread nD τ) ↦[(slotM b s).view.set]{q} f : sProp 𝕄)
    ⊢ (((comM b).access (Rect.unit (s := S2x4x512x1024) off S1x1x512x1024.size h)).loc (c : Thread nD τ) ↦[(slotM b s).view.set]{q} f) from .rfl) $$ H
  iapply (wp_load_rect 𝒱₀ (c : Thread nD τ) none Set.univ (m := comM b) (r := Rect.unit (s := S2x4x512x1024) off S1x1x512x1024.size h)
    (S := (slotM b s).view.set) (q := q) (f := f) (mat_set eo)) $$ H
  iintro H
  rw [mat_read (F := F) (b := b) (s := s) eo f, hf]
  iapply Hk
  iexists f
  isplitr; · ipureintro; exact hf
  iexact H

/-- The result's buffer of a device, whole. -/
def outP (X : Vec F S2048x1024 .f32) : sProp 𝕄 := (((c : Thread nD τ).loc cc0_stg5_0) ↦{fullShare} X)

theorem out_zero : (![0, 0] : Fin 2 → ℕ) = fun _ => 0 := by funext a; fin_cases a <;> rfl

theorem load_out {X : Vec F S2048x1024 .f32} {hl}
    {α : Type} {Q : α → sProp 𝕄} {kk : Vec F S2048x1024 .f32 → Prog (TpuEff nD τ sig (Elt F) Λ₀ .tc) α} :
    outP (F := F) c X
      ⊢ iprop((outP (F := F) c X -∗ wpT c (kk X) Q)
        -∗ wpT c (.op (.load (Memref.whole cc0_stg5_0) (Rect.unit (s := S2048x1024) ![0, 0] S2048x1024.size inb_S2048x1024_S2048x1024_0_0).toLoadRect hl) kk) Q) := by
  unfold outP
  iintro H Hk
  iapply (wp_load 𝒱₀ (c : Thread nD τ) none Set.univ (m := Memref.whole cc0_stg5_0) (Finset.subset_univ _)) $$ H
  iintro H
  rw [show (Memref.whole cc0_stg5_0).view.readAt (Elt F) (Rect.unit (s := S2048x1024) ![0, 0] S2048x1024.size inb_S2048x1024_S2048x1024_0_0).toLoadRect X = X
    from Memref.readAt_unit_zero (Elt F) cc0_stg5_0 out_zero _ X]
  iapply Hk
  iexact H

theorem store_out {X : Vec F S2048x1024 .f32} {w : Vec F S2048x1024 .f32} {hx hm}
    {α : Type} {Q : α → sProp 𝕄} {kk : PUnit → Prog (TpuEff nD τ sig (Elt F) Λ₀ .tc) α} :
    outP (F := F) c X
      ⊢ iprop((outP (F := F) c w -∗ wpT c (kk ⟨⟩) Q)
        -∗ wpT c (.op (.store (Memref.whole cc0_stg5_0) (Rect.unit (s := S2048x1024) ![0, 0] S2048x1024.size inb_S2048x1024_S2048x1024_0_0) w Finset.univ hx hm) kk) Q) := by
  unfold outP
  iintro H Hk
  iapply (wp_store 𝒱₀ (c : Thread nD τ) none Set.univ (m := Memref.whole cc0_stg5_0)
    (r := Rect.unit (s := S2048x1024) ![0, 0] S2048x1024.size inb_S2048x1024_S2048x1024_0_0) (Mk := Finset.univ) (Finset.subset_univ _)) $$ H
  iintro H
  rw [show ((Memref.whole cc0_stg5_0).access (Rect.unit (s := S2048x1024) ![0, 0] S2048x1024.size inb_S2048x1024_S2048x1024_0_0)).write (Elt F) X w Finset.univ = w
    from Memref.write_access_unit_zero_univ (Elt F) cc0_stg5_0 out_zero _ X w]
  iapply Hk
  iexact H

end Steps

/-! ## What an expert adds -/

/-- The rows routed to expert `word`, scaled by their gate, times the expert's matrix, added to `Y`. -/
def expertStep (x : FVec F S2048x512 .f32) (idx : IVec S2048x1 32) (p : FVec F S2048x1 .f32) (word : BitVec 32) (W : Vec F S1x1x512x1024 .bf16)
    (Y : Vec F S2048x1024 .f32) : FVec F S2048x1024 .f32 :=
  addf (shapeCast S2048x1024 Y shapeCasts_S2048x1024_S2048x1024)
    (matmul dot_S2048x512_S512x1024_S2048x1024_1_0_0_1_n_n none
      (truncf .bf16 (mulf x (broadcastTo S2048x512
        (select (cmpi .eq idx (broadcast S2048x1 word)) p (broadcast S2048x1 (Scalar.ofBits .f32 0x00000000#32))) broadcasts_S2048x1_S2048x512)) bitsLt_bf16_f32)
      (shapeCast S512x1024 W shapeCasts_S1x1x512x1024_S512x1024) (constant S2048x1024 .f32 0x00000000#32))

/-- The expert's number, as either loop computes it. -/
def word2 (v98 v99 : BitVec 32) (v100 : BitVec 1) (e : Fin k0_t2_loop.trips) : BitVec 32 :=
  Scalar.addi (Scalar.muli (Scalar.select (Scalar.andi (Scalar.xori (Scalar.cmpi .slt v99 0#32) (Scalar.cmpi .slt v98 0#32)) v100) (Scalar.addi v99 v98) v99) 4#32)
    (Scf.iv 0#32 1#32 e)
def word3 (v2 arg14 : BitVec 32) (e : Fin k0_t3_loop.trips) : BitVec 32 :=
  let s := Scalar.select (Scalar.cmpi .eq 16#32 0#32) 1#32 16#32
  let r := Scalar.remsi (Scalar.addi v2 arg14) s
  Scalar.addi (Scalar.muli (Scalar.select (Scalar.andi (Scalar.xori (Scalar.cmpi .slt r 0#32) (Scalar.cmpi .slt s 0#32)) (Scalar.cmpi .ne r 0#32)) (Scalar.addi r s) r) 4#32)
    (Scf.iv 0#32 1#32 e)

theorem pay2_eq (x : FVec F S2048x512 .f32) (idx p) (v98 v99 : BitVec 32) (v100 : BitVec 1) (e W Y) :
    k0_pay2 x idx p v98 v99 v100 e W Y = expertStep x idx p (word2 v98 v99 v100 e) W Y := rfl
theorem pay3_eq (v2 : BitVec 32) (x : FVec F S2048x512 .f32) (idx p) (a : BitVec 32) (e W Y) :
    k0_pay3 v2 x idx p a e W Y = expertStep x idx p (word3 v2 a e) W Y := rfl

/-- Expert `e` of the device whose matrices are held after `t` hops. -/
def expertWord (b : Bool) (t : ℕ) (c : Dev nD) (e : ℕ) : BitVec 32 := BitVec.ofNat 32 (4 * (origin b t c).val + e)

/-- The device's number, as the kernel computes it. -/
def devWord (c : Dev nD) : BitVec 32 := Scalar.remsi (Scalar.divsi (Dev.word c) 1#32) 16#32

theorem word2_eq (c : Dev nD) (t : Fin k0_t1_loop.trips) (e : Fin k0_t2_loop.trips) :
    word2 (Scalar.select (Scalar.cmpi .eq 16#32 0#32) 1#32 16#32)
      (Scalar.remsi (Scalar.subi (Scalar.addi (devWord c) 16#32) (Scf.iv 0#32 1#32 t)) (Scalar.select (Scalar.cmpi .eq 16#32 0#32) 1#32 16#32))
      (Scalar.cmpi .ne (Scalar.remsi (Scalar.subi (Scalar.addi (devWord c) 16#32) (Scf.iv 0#32 1#32 t)) (Scalar.select (Scalar.cmpi .eq 16#32 0#32) 1#32 16#32)) 0#32)
      e = expertWord false t.val c e.val := by
  revert c t e; decide +kernel
theorem word3_eq (c : Dev nD) (t : Fin k0_t1_loop.trips) (e : Fin k0_t3_loop.trips) :
    word3 (devWord c) (Scf.iv 0#32 1#32 t) e = expertWord true t.val c e.val := by
  revert c t e; decide +kernel

/-! ## What the device computes -/

section Out
variable (c : Dev nD)

/-- The rows, their experts and their gates, as the kernel holds them. -/
def xV : FVec F S2048x512 .f32 := k0_pay4 (xBlk m ρ c)
def idxV : IVec S2048x1 32 := k0_pay5 (iBlk m ρ c)
def gateV : FVec F S2048x1 .f32 := k0_pay6 (xBlk m ρ c) (rBlk m ρ c) (iBlk m ρ c)

/-- The result with the first `n` experts of hop `t`'s device added. -/
def addHop (b : Bool) (t : ℕ) (Y : Vec F S2048x1024 .f32) : ℕ → Vec F S2048x1024 .f32
  | 0 => Y
  | n + 1 => expertStep (xV m ρ c) (idxV m ρ c) (gateV m ρ c) (expertWord b t c n) (mat (held m ρ c b t) (Fin.ofNat 4 n)) (addHop b t Y n)

/-- The result with hop `t` added, in the first direction, -/
def outR (t : ℕ) (Y : Vec F S2048x1024 .f32) : Vec F S2048x1024 .f32 := addHop m ρ c false t Y 4
/-- and then in the second, which has neither hop zero nor the eighth. -/
def outL (t : ℕ) (Y : Vec F S2048x1024 .f32) : Vec F S2048x1024 .f32 := if 1 ≤ t ∧ t ≤ hops true then addHop m ρ c true t Y 4 else Y

/-- The result before trip `t`. -/
def outTrip : ℕ → Vec F S2048x1024 .f32
  | 0 => k0_pay7 (xBlk m ρ c) (sBlk m ρ c)
  | t + 1 => outL m ρ c t (outR m ρ c t (outTrip t))

/-- The result. -/
def outAt : Vec F S2048x1024 .f32 := outTrip m ρ c k0_t1_loop.trips

end Out

/-! ## The two inner loops -/

section Loops

theorem ofNat_t2 (e : Fin k0_t2_loop.trips) : e.val = (Fin.ofNat 4 e.val).val := by revert e; decide +kernel
theorem ofNat_t3 (e : Fin k0_t3_loop.trips) : e.val = (Fin.ofNat 4 e.val).val := by revert e; decide +kernel
theorem trips_t2 : Scf.trips k0_t2_loop.lb k0_t2_loop.ub k0_t2_loop.st = 4 := by decide +kernel
theorem trips_t3 : Scf.trips k0_t3_loop.lb k0_t3_loop.ub k0_t3_loop.st = 4 := by decide +kernel

variable (c : Dev nD)
variable {v32 : FVec F S2048x512 .f32} {v46 : IVec S2048x1 32} {v53 : FVec F S2048x1 .f32}
variable {a0 : Memref sig .tc .vmem S2048x512 .f32} {h0 : a0.IsWhole} {a1 : Memref sig .tc .vmem S512x64 .f32} {h1 : a1.IsWhole}
  {a2 : Memref sig .tc .vmem S2048x1 .i32} {h2 : a2.IsWhole} {a3 : Memref sig .tc .vmem S4x512x1024 .f32} {h3 : a3.IsWhole}
  {a4 : Memref sig .tc .vmem S512x1024 .f32} {h4 : a4.IsWhole} {h5} {h6} {a7 a8 : DmaSems sig S2} {a9 : Sems sig S_} {h10}
  {a11 a12 : DmaSems sig S2} {a13 : Sems sig S_}

theorem loop_r (t : Fin k0_t1_loop.trips) {v98 v99 : BitVec 32} {v100 : BitVec 1} {q : PosShare TreeShare} {Y : Vec F S2048x1024 .f32}
    (e32 : v32 = xV m ρ c) (e46 : v46 = idxV m ρ c) (e53 : v53 = gateV m ρ c)
    (hw : ∀ e, word2 v98 v99 v100 e = expertWord false t.val c e.val) {hok}
    {α : Type} {Q : α → sProp 𝕄} {kk : Unit → Prog (TpuEff nD τ sig (Elt F) Λ₀ .tc) α} :
    iprop(slot (F := F) c false (par t.val) q (held m ρ c false t.val) ∗ outP c Y)
      ⊢ iprop((slot (F := F) c false (par t.val) q (held m ρ c false t.val) ∗ outP c (outR m ρ c t.val Y) -∗ wpT c (kk ⟨⟩) Q)
        -∗ wpT c (Scf.Loop.for k0_t2_loop hok ⟨⟩
          (k0_t2_body a0 h0 a1 h1 a2 h2 a3 h3 a4 h4 (Memref.whole cc0_stg5_0) h5 (Memref.whole cc0_scratch0) h6 a7 a8 a9 (Memref.whole cc0_scratch4) h10 a11 a12 a13 v32 v46 v53 t v98 v99 v100) >>= kk) Q) := by
  subst e32 e46 e53
  have hbody : ∀ (e : Fin k0_t2_loop.trips) (acc : Unit),
      iprop(slot (F := F) c false (par t.val) q (held m ρ c false t.val) ∗ outP c (addHop m ρ c false t.val Y e.val))
        ⊢ wpT c (k0_t2_body a0 h0 a1 h1 a2 h2 a3 h3 a4 h4 (Memref.whole cc0_stg5_0) h5 (Memref.whole cc0_scratch0) h6 a7 a8 a9 (Memref.whole cc0_scratch4) h10 a11 a12 a13 (xV m ρ c) (idxV m ρ c) (gateV m ρ c) t v98 v99 v100 e acc)
          (fun _ => iprop(slot (F := F) c false (par t.val) q (held m ρ c false t.val) ∗ outP c (addHop m ρ c false t.val Y (e.val + 1)))) := by
    intro e _
    unfold k0_t2_body
    simp only [Prog.lift, Prog.bind_op, Prog.bind_ret, Prog.pure_eq_ret]
    iintro ⟨Hs, Ho⟩
    iapply (load_mat c false (par t.val) (e := Fin.ofNat 4 e.val) (by rw [off9]; exact congrArg _ (ofNat_t2 e))) $$ Hs; iintro Hs
    iapply (load_out c) $$ Ho; iintro Ho
    iapply (load_out c) $$ Ho; iintro Ho
    iapply (store_out c) $$ Ho; iintro Ho
    rw [pay2_eq, hw]
    unfold wpT
    rw [wp_ret]
    imodintro
    isplitl [Hs]; · iexact Hs
    iexact Ho
  rw [show outP (F := F) c Y = outP c (addHop m ρ c false t.val Y 0) from rfl]
  iintro HI Hk
  iapply (Scf.wp_for_bind frame (wpE (defs₀ (F := F)) 𝒱₀ (c : Thread nD τ) none) Set.univ _ _ _ hok ⟨⟩ _
    (fun n (_ : Unit) => iprop(slot (F := F) c false (par t.val) q (held m ρ c false t.val) ∗ outP c (addHop m ρ c false t.val Y n))) hbody) $$ HI
  iintro %acc H
  rw [trips_t2]
  iapply Hk
  iexact H

theorem loop_l (t : Fin k0_t1_loop.trips) {v2 a14 : BitVec 32} {q : PosShare TreeShare} {Y : Vec F S2048x1024 .f32} (hh5 : k0_cond5 t = 1#1)
    (e32 : v32 = xV m ρ c) (e46 : v46 = idxV m ρ c) (e53 : v53 = gateV m ρ c)
    (hw : ∀ e, word3 v2 a14 e = expertWord true t.val c e.val) {hok}
    {α : Type} {Q : α → sProp 𝕄} {kk : Unit → Prog (TpuEff nD τ sig (Elt F) Λ₀ .tc) α} :
    iprop(slot (F := F) c true (par t.val) q (held m ρ c true t.val) ∗ outP c Y)
      ⊢ iprop((slot (F := F) c true (par t.val) q (held m ρ c true t.val) ∗ outP c (addHop m ρ c true t.val Y 4) -∗ wpT c (kk ⟨⟩) Q)
        -∗ wpT c (Scf.Loop.for k0_t3_loop hok ⟨⟩
          (k0_t3_body a0 h0 a1 h1 a2 h2 a3 h3 a4 h4 (Memref.whole cc0_stg5_0) h5 (Memref.whole cc0_scratch0) h6 a7 a8 a9 (Memref.whole cc0_scratch4) h10 a11 a12 a13 v2 v32 v46 v53 t a14 hh5) >>= kk) Q) := by
  subst e32 e46 e53
  have hbody : ∀ (e : Fin k0_t3_loop.trips) (acc : Unit),
      iprop(slot (F := F) c true (par t.val) q (held m ρ c true t.val) ∗ outP c (addHop m ρ c true t.val Y e.val))
        ⊢ wpT c (k0_t3_body a0 h0 a1 h1 a2 h2 a3 h3 a4 h4 (Memref.whole cc0_stg5_0) h5 (Memref.whole cc0_scratch0) h6 a7 a8 a9 (Memref.whole cc0_scratch4) h10 a11 a12 a13 v2 (xV m ρ c) (idxV m ρ c) (gateV m ρ c) t a14 hh5 e acc)
          (fun _ => iprop(slot (F := F) c true (par t.val) q (held m ρ c true t.val) ∗ outP c (addHop m ρ c true t.val Y (e.val + 1)))) := by
    intro e _
    unfold k0_t3_body
    simp only [Prog.lift, Prog.bind_op, Prog.bind_ret, Prog.pure_eq_ret]
    iintro ⟨Hs, Ho⟩
    iapply (load_mat c true (par t.val) (e := Fin.ofNat 4 e.val) (by rw [off10]; exact congrArg _ (ofNat_t3 e))) $$ Hs; iintro Hs
    iapply (load_out c) $$ Ho; iintro Ho
    iapply (load_out c) $$ Ho; iintro Ho
    iapply (store_out c) $$ Ho; iintro Ho
    rw [pay3_eq, hw]
    unfold wpT
    rw [wp_ret]
    imodintro
    isplitl [Hs]; · iexact Hs
    iexact Ho
  rw [show outP (F := F) c Y = outP c (addHop m ρ c true t.val Y 0) from rfl]
  iintro HI Hk
  iapply (Scf.wp_for_bind frame (wpE (defs₀ (F := F)) 𝒱₀ (c : Thread nD τ) none) Set.univ _ _ _ hok ⟨⟩ _
    (fun n (_ : Unit) => iprop(slot (F := F) c true (par t.val) q (held m ρ c true t.val) ∗ outP c (addHop m ρ c true t.val Y n))) hbody) $$ HI
  iintro %acc H
  rw [trips_t3]
  iapply Hk
  iexact H

end Loops

end Cert.MoeRing

end
-- ==== Proof.Trip.lean ====
/-
# `Trip`: one trip of the kernel's outer loop

A trip starts both directions' copies, adds what the device holds to the result while they are under way,
waits for them, and hands the slots it has read back to the devices they come from.
-/
module

public import proofs.«01_k».proof.Proof.Compute

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Role → ℕ)

/-- While a copy is under way, and at the end, the slot of the hop can be read. -/
theorem lend (c : Dev nD) (b : Bool) (h : ℕ) (hh : h ≤ hops b) :
    StF m ρ c b h ⊢ iprop(∃ q, slot c b (par h) q (held m ρ c b h) ∗ (slot c b (par h) q (held m ρ c b h) -∗ StF m ρ c b h)) := by
  unfold StF
  by_cases h1 : h < hops b
  · rw [if_pos h1]
    unfold Flying
    iintro ⟨H1, H2, H3, H4, H5, H6, H7, H8, H9, H10, Hs, H11⟩
    iexists fullShare.right
    isplitl [Hs]; · iexact Hs
    iintro Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    iexact H11
  · obtain rfl : h = hops b := by omega
    rw [if_neg h1]
    unfold Done
    iintro ⟨H1, H2, H3, H4, H5, Hs, H6⟩
    iexists fullShare
    isplitl [Hs]; · iexact Hs
    iintro Hs
    isplitl [H1]; · iexact H1
    isplitl [H2]; · iexact H2
    isplitl [H3]; · iexact H3
    isplitl [H4]; · iexact H4
    isplitl [H5]; · iexact H5
    isplitl [Hs]; · iexact Hs
    iexact H6

theorem owes_comm (c : Dev nD) (A B : CellTallies nD τ sig ℕ) : owesE (F := F) c (A + B) ⊢ owesE c (B + A) := by
  rw [add_comm]

section Trip
variable (c : Dev nD)
variable {v32 : FVec F S2048x512 .f32} {v46 : IVec S2048x1 32} {v53 : FVec F S2048x1 .f32}
variable {a0 : Memref sig .tc .vmem S2048x512 .f32} {h0 : a0.IsWhole} {a1 : Memref sig .tc .vmem S512x64 .f32} {h1 : a1.IsWhole}
  {a2 : Memref sig .tc .vmem S2048x1 .i32} {h2 : a2.IsWhole} {a3 : Memref sig .tc .vmem S4x512x1024 .f32} {h3 : a3.IsWhole}
  {a4 : Memref sig .tc .vmem S512x1024 .f32} {h4 : a4.IsWhole} {h5} {h6} {h10}

/-- The start of the trip: both credits taken, both copies started. -/
theorem trip_start (t : Fin k0_t1_loop.trips) {v2 v14 v25 : BitVec 32} {Q : (Σ' (arg14 : BitVec 32) (v77 : BitVec 32) (v98 : BitVec 32) (v99 : BitVec 32), BitVec 1) → sProp 𝕄} :
    iprop(recs m ρ K ∗ owesE c (dues c false t.val t.val + dues c true t.val t.val) ∗ StA m ρ c false t.val ∗ StA m ρ c true t.val)
      ⊢ iprop((∀ v77, (owesE c (dues c false (t.val + 1) t.val + dues c true (t.val + 1) t.val) ∗ StF m ρ c false t.val ∗ StF m ρ c true t.val)
          -∗ Q ⟨Scf.iv 0#32 1#32 t, v77, Scalar.select (Scalar.cmpi .eq 16#32 0#32) 1#32 16#32,
            Scalar.remsi (Scalar.subi (Scalar.addi v2 16#32) (Scf.iv 0#32 1#32 t)) (Scalar.select (Scalar.cmpi .eq 16#32 0#32) 1#32 16#32),
            Scalar.cmpi .ne (Scalar.remsi (Scalar.subi (Scalar.addi v2 16#32) (Scf.iv 0#32 1#32 t)) (Scalar.select (Scalar.cmpi .eq 16#32 0#32) 1#32 16#32)) 0#32⟩)
        -∗ wpT c (k0_part1 a0 h0 a1 h1 a2 h2 a3 h3 a4 h4 (Memref.whole cc0_stg5_0) h5 (Memref.whole cc0_scratch0) h6 cc0_scratch1 cc0_scratch2 cc0_scratch3
          (Memref.whole cc0_scratch4) h10 cc0_scratch5 cc0_scratch6 cc0_scratch7 c v2 v14 v25 0#32 1#32 t) Q) := by
  rw [k0_part1_eq_skeleton]
  unfold k0_part1_skel
  simp only [semWaitWord, Prog.lift, Prog.bind_op, Prog.bind_ret, Prog.pure_eq_ret]
  iintro ⟨#Hr, HO, Ha, Hb⟩ Hk
  iapply (step_credit m ρ K c false t.val (cond1 t) (fun _ => rfl) (fun _ => rfl)
    (fun _ => dues_above c true (i := t.val) (j := t.val) (by simp only [crdLv, rcvLv]; omega) (by simp only [crdLv]; omega))) $$ [HO Ha]
  · isplitr; · iexact Hr
    isplitl [HO] <;> iassumption
  iintro ⟨HO, Ha⟩
  iapply (step_send m ρ K c false t.val (cond2 t) (fun x => IsSend.mk _ _ _ _ _ _ _ _ _ _
    (slotAt_eq false (par t.val) (k0_off4_inb t x) (off4 t)) (dev3 c _) (slotAt_eq false (!par t.val) (k0_off3_inb t x) (off3 t))
    (snd_r _ (k0_off1_inb t x) (off1 t)) (rcv_r _ (k0_off2_inb t x) (off2 t))) (fun _ => rfl)) $$ [HO Ha]
  · isplitr; · iexact Hr
    isplitl [HO] <;> iassumption
  iintro ⟨HO, Ha⟩
  ihave HO := (owes_comm c _ _) $$ HO
  iapply (step_credit m ρ K c true t.val (cond3 t) (fun _ => rfl) (fun _ => rfl)
    (fun _ => dues_above c false (i := t.val + 1) (j := t.val) (by simp only [crdLv, rcvLv]; omega) (by simp only [crdLv]; omega))) $$ [HO Hb]
  · isplitr; · iexact Hr
    isplitl [HO] <;> iassumption
  iintro ⟨HO, Hb⟩
  iapply (step_send m ρ K c true t.val (cond4 t) (fun x => IsSend.mk _ _ _ _ _ _ _ _ _ _
    (slotAt_eq true (par t.val) (k0_off8_inb t x) (off8 t)) (dev4 c _) (slotAt_eq true (!par t.val) (k0_off7_inb t x) (off7 t))
    (snd_l _ (k0_off5_inb t x) (off5 t)) (rcv_l _ (k0_off6_inb t x) (off6 t))) (fun _ => rfl)) $$ [HO Hb]
  · isplitr; · iexact Hr
    isplitl [HO] <;> iassumption
  iintro ⟨HO, Hb⟩
  ihave HO := (owes_comm c _ _) $$ HO
  unfold wpT
  rw [wp_ret]
  imodintro
  iapply Hk
  isplitl [HO]; · iexact HO
  isplitl [Ha] <;> iassumption

/-- The second direction's share of the trip, where it has one. -/
theorem step_l (t : Fin k0_t1_loop.trips) {v2 a14 : BitVec 32} {Y : Vec F S2048x1024 .f32}
    (e32 : v32 = xV m ρ c) (e46 : v46 = idxV m ρ c) (e53 : v53 = gateV m ρ c)
    (hw : ∀ e, word3 v2 a14 e = expertWord true t.val c e.val)
    {α : Type} {Q : α → sProp 𝕄} {kk : Prog (TpuEff nD τ sig (Elt F) Λ₀ .tc) α}
    {f : k0_cond5 t = 1#1 → Prog (TpuEff nD τ sig (Elt F) Λ₀ .tc) α} {g : ¬k0_cond5 t = 1#1 → Prog (TpuEff nD τ sig (Elt F) Λ₀ .tc) α}
    (hf : ∀ x, f x = Scf.Loop.for k0_t3_loop (k0_t3_ok t x) ⟨⟩
      (k0_t3_body a0 h0 a1 h1 a2 h2 a3 h3 a4 h4 (Memref.whole cc0_stg5_0) h5 (Memref.whole cc0_scratch0) h6 cc0_scratch1 cc0_scratch2 cc0_scratch3
          (Memref.whole cc0_scratch4) h10 cc0_scratch5 cc0_scratch6 cc0_scratch7 v2 v32 v46 v53 t a14 x) >>= fun _ => kk)
    (hg : ∀ x, g x = kk) :
    iprop(StF m ρ c true t.val ∗ outP c Y)
      ⊢ iprop((StF m ρ c true t.val ∗ outP c (outL m ρ c t.val Y) -∗ wpT c kk Q) -∗ wpT c (dite (k0_cond5 t = 1#1) f g) Q) := by
  unfold outL
  by_cases hp : k0_cond5 t = 1#1
  · have hc := (cond5 t).mp hp
    rw [dif_pos hp, hf, if_pos hc]
    iintro ⟨Hb, Ho⟩ Hk
    ihave Hb := (lend m ρ c true t.val hc.2) $$ Hb
    icases Hb with ⟨%q, Hs, Hb⟩
    iapply (loop_l m ρ c t hp e32 e46 e53 hw) $$ [Hs Ho]
    · isplitl [Hs] <;> iassumption
    iintro ⟨Hs, Ho⟩
    iapply Hk
    isplitl [Hb Hs]; · iapply Hb; iexact Hs
    iexact Ho
  · rw [dif_neg hp, hg, if_neg (fun h => hp ((cond5 t).mpr h))]
    iintro H Hk
    iapply Hk
    iexact H

/-- A trip: the loop's invariant at it gives the one at the next. -/
theorem trip (t : Fin k0_t1_loop.trips) {v14 v25 : BitVec 32} (e32 : v32 = xV m ρ c) (e46 : v46 = idxV m ρ c) (e53 : v53 = gateV m ρ c) :
    iprop(recs m ρ K ∗ owesE c (dues c false t.val t.val + dues c true t.val t.val) ∗ StA m ρ c false t.val ∗ StA m ρ c true t.val
        ∗ outP c (outTrip m ρ c t.val))
      ⊢ wpT c (k0_t1_body a0 h0 a1 h1 a2 h2 a3 h3 a4 h4 (Memref.whole cc0_stg5_0) h5 (Memref.whole cc0_scratch0) h6 cc0_scratch1 cc0_scratch2 cc0_scratch3
          (Memref.whole cc0_scratch4) h10 cc0_scratch5 cc0_scratch6 cc0_scratch7 c (devWord c) v14 v25 v32 v46 v53 t ⟨⟩)
        (fun _ => iprop(owesE c (dues c false (t.val + 1) (t.val + 1) + dues c true (t.val + 1) (t.val + 1)) ∗ StA m ρ c false (t.val + 1) ∗ StA m ρ c true (t.val + 1)
          ∗ outP c (outTrip m ρ c (t.val + 1)))) := by
  have ht : t.val < 9 := lt_of_lt_of_eq t.isLt (by decide +kernel)
  unfold k0_t1_body
  simp only [semSignalWord, Prog.lift, Prog.bind_op, Prog.bind_ret, Prog.pure_eq_ret]
  unfold wpT
  rw [wp_bind]
  iintro ⟨#Hr, HO, Ha, Hb, Ho⟩
  iapply (trip_start m ρ K c t) $$ [HO Ha Hb]
  · isplitr; · iexact Hr
    isplitl [HO]; · iexact HO
    isplitl [Ha] <;> iassumption
  iintro %v77 ⟨HO, Ha, Hb⟩
  ihave Ha := (lend m ρ c false t.val (by show t.val ≤ 8; omega)) $$ Ha
  icases Ha with ⟨%q, Hs, Ha⟩
  iapply (loop_r m ρ c t e32 e46 e53 (word2_eq c t)) $$ [Hs Ho]
  · isplitl [Hs] <;> iassumption
  iintro ⟨Hs, Ho⟩
  ihave Ha := Ha $$ Hs
  iapply (step_l m ρ c t e32 e46 e53 (word3_eq c t) (fun _ => rfl) (fun _ => rfl)) $$ [Hb Ho]
  · isplitl [Hb] <;> iassumption
  iintro ⟨Hb, Ho⟩
  iapply (step_wait m ρ K c false t.val (cond6 t) (fun x => IsWait.mk _ _ _ _ _ _ _ _ _ _ _
    (slotAt_credit false _ (k0_off12_inb t x)) (slotAt_credit false _ (k0_off13_inb t x))
    (snd_r _ (k0_off11_inb t x) (off11 t)) (rcv_r _ (k0_off14_inb t x) (off14 t))) (fun _ => rfl)
    (dues_above c true (i := t.val + 1) (j := t.val) (by simp only [rcvLv]; omega) (by simp only [rcvLv, crdLv]; omega))) $$ [HO Ha]
  · isplitr; · iexact Hr
    isplitl [HO] <;> iassumption
  iintro ⟨HO, Ha⟩
  iapply (step_signal m ρ K c false t.val (cond7 t) (fun x => ⟨_, dev5 c _, rfl⟩) (fun _ => rfl)) $$ [HO Ha]
  · isplitr; · iexact Hr
    isplitl [HO] <;> iassumption
  iintro ⟨HO, Ha⟩
  ihave HO := (owes_comm c _ _) $$ HO
  iapply (step_wait m ρ K c true t.val (cond8 t) (fun x => IsWait.mk _ _ _ _ _ _ _ _ _ _ _
    (slotAt_credit true _ (k0_off16_inb t x)) (slotAt_credit true _ (k0_off17_inb t x))
    (snd_l _ (k0_off15_inb t x) (off15 t)) (rcv_l _ (k0_off18_inb t x) (off18 t))) (fun _ => rfl)
    (dues_above c false (i := t.val + 1) (j := t.val + 1) (by simp only [rcvLv]; omega) (by simp only [rcvLv, crdLv]; omega))) $$ [HO Hb]
  · isplitr; · iexact Hr
    isplitl [HO] <;> iassumption
  iintro ⟨HO, Hb⟩
  iapply (step_signal m ρ K c true t.val (cond9 t) (fun x => ⟨_, dev6 c _, rfl⟩) (fun _ => rfl)) $$ [HO Hb]
  · isplitr; · iexact Hr
    isplitl [HO] <;> iassumption
  iintro ⟨HO, Hb⟩
  ihave HO := (owes_comm c _ _) $$ HO
  unfold wpT
  rw [wp_ret]
  imodintro
  isplitl [HO]; · iexact HO
  isplitl [Ha]; · iexact Ha
  isplitl [Hb]; · iexact Hb
  iexact Ho

end Trip

end Cert.MoeRing

end
-- ==== Proof.Slots.lean ====
/-
# `Slots`: a communication buffer and its two slots

The buffer is its two slots; the slot the device keeps is written with its own expert matrices.
-/
module

public import proofs.«01_k».proof.Proof.Compute

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The rectangle of a slot. -/
def slotR (s : Bool) : Rect S2x4x512x1024 := Rect.unit (s := S2x4x512x1024) (slotOff s) S1x4x512x1024.size (slotOff_inb s)

theorem mem_slotR {s : Bool} {i : S2x4x512x1024.Idx} : i ∈ (slotR s).set ↔ (i 0).val = s.toNat := by
  unfold slotR
  rw [Rect.mem_set_unit]
  have h0 := (i 0).isLt; have h1 := (i 1).isLt; have h2 := (i 2).isLt; have h3 := (i 3).isLt
  change (i 0).val < 2 at h0; change (i 1).val < 4 at h1; change (i 2).val < 512 at h2; change (i 3).val < 1024 at h3
  constructor
  · intro h
    have := h 0
    change s.toNat ≤ (i 0).val ∧ (i 0).val < s.toNat + 1 at this
    omega
  · intro h a
    fin_cases a
    · show s.toNat ≤ (i 0).val ∧ (i 0).val < s.toNat + 1
      omega
    · show 0 ≤ (i 1).val ∧ (i 1).val < 0 + 4
      omega
    · show 0 ≤ (i 2).val ∧ (i 2).val < 0 + 512
      omega
    · show 0 ≤ (i 3).val ∧ (i 3).val < 0 + 1024
      omega

theorem slotR_disjoint (s t : Bool) (h : s ≠ t) : Disjoint (slotR s).set (slotR t).set :=
  Finset.disjoint_left.mpr fun i hs ht => h (by
    have e := (mem_slotR.mp hs).symm.trans (mem_slotR.mp ht)
    revert e; cases s <;> cases t <;> decide)

section Slots
variable (c : Dev nD) (b : Bool)

/-- The buffer of a direction, at some contents. -/
def comP : sProp 𝕄 := iprop(∃ f : (comM b).view.ty.Contents (Elt F), (comM b).view.loc (c : Thread nD τ) ↦[(comM b).view.set]{fullShare} f)

theorem slot_set (s : Bool) : (slotM b s).view.set = ((comM b).view.slice (slotR s)).set := View.set_reshape _ _

/-- A slot's elements are the slice's. -/
theorem slot_pts (s : Bool) {q : PosShare TreeShare} (f : (comM b).view.ty.Contents (Elt F)) :
    ((slotM b s).view.loc (c : Thread nD τ) ↦[(slotM b s).view.set]{q} f : sProp 𝕄)
      = ((comM b).view.loc (c : Thread nD τ) ↦[((comM b).view.slice (slotR s)).set]{q} f) :=
  congrArg (fun S => ((comM b).view.loc (c : Thread nD τ) ↦[S]{q} f : sProp 𝕄)) (slot_set b s)

/-- A slot at any contents, by its elements. -/
theorem slotAny_pts (s : Bool) :
    (slotAny (F := F) c b s : sProp 𝕄) ⊣⊢ iprop(∃ f : (comM b).view.ty.Contents (Elt F), (comM b).view.loc (c : Thread nD τ) ↦[((comM b).view.slice (slotR s)).set]{fullShare} f) := by
  constructor
  · unfold slotAny slot owns
    iintro ⟨%X, %f, -, H⟩
    iexists f
    ihave H := (Entails.of_eq (slot_pts (F := F) c b s (q := fullShare) f)) $$ H
    iexact H
  · unfold slotAny slot owns
    iintro ⟨%f, H⟩
    iexists (slotM b s).view.read (Elt F) f
    iexists f
    isplitr; · ipureintro; rfl
    ihave H := (Entails.of_eq (slot_pts (F := F) c b s (q := fullShare) f).symm) $$ H
    iexact H

theorem slotR_union : (slotR false).set ∪ (slotR true).set = Finset.univ := by
  ext i
  simp only [Finset.mem_union, Finset.mem_univ, iff_true, mem_slotR]
  have h0 := (i 0).isLt
  change (i 0).val < 2 at h0
  show (i 0).val = 0 ∨ (i 0).val = 1
  omega

theorem com_set : (comM b).view.set = ((comM b).view.slice (slotR false)).set ∪ ((comM b).view.slice (slotR true)).set := by
  rw [View.set_slice, View.set_slice, ← Finset.map_union, slotR_union]
  exact rfl

theorem com_disjoint : Disjoint ((comM b).view.slice (slotR false)).set ((comM b).view.slice (slotR true)).set := by
  rw [View.set_slice, View.set_slice]
  exact (Finset.disjoint_map _).mpr (slotR_disjoint _ _ (by decide))

/-- The buffer is its two slots, -/
theorem slots_split : comP (F := F) c b ⊢ iprop(slotAny c b false ∗ slotAny c b true) := by
  unfold comP
  iintro ⟨%f, H⟩
  rw [com_set]
  ihave H := (pointsTo_union (com_disjoint b)).1 $$ H
  icases H with ⟨H0, H1⟩
  isplitl [H0]
  · iapply (slotAny_pts c b false).2; iexists f; iexact H0
  · iapply (slotAny_pts c b true).2; iexists f; iexact H1

/-- and the two slots the buffer. -/
theorem slots_join : iprop(slotAny c b false ∗ slotAny c b true) ⊢ comP (F := F) c b := by
  iintro ⟨H0, H1⟩
  ihave H0 := (slotAny_pts c b false).1 $$ H0
  ihave H1 := (slotAny_pts c b true).1 $$ H1
  icases H0 with ⟨%f, H0⟩
  icases H1 with ⟨%g, H1⟩
  unfold comP
  rw [com_set]
  iexists (((comM b).view.slice (slotR true)).set.piecewise g f)
  iapply (pointsTo_join (com_disjoint b))
  isplitl [H0] <;> iassumption

/-- A load of the slot before it is written, -/
theorem load_slot {hb hl} {α : Type} {Q : α → sProp 𝕄} {kk : Vec F S1x4x512x1024 .bf16 → Prog (TpuEff nD τ sig (Elt F) Λ₀ .tc) α} :
    slotAny (F := F) c b false
      ⊢ iprop((∀ w, slotAny (F := F) c b false -∗ wpT c (kk w) Q)
        -∗ wpT c (.op (.load (comM b) (Rect.unit (s := S2x4x512x1024) ![0, 0, 0, 0] S1x4x512x1024.size hb).toLoadRect hl) kk) Q) := by
  iintro H Hk
  ihave H := (slotAny_pts c b false).1 $$ H
  icases H with ⟨%f, H⟩
  iapply (wp_load_rect 𝒱₀ (c : Thread nD τ) none Set.univ (m := comM b) (r := slotR false)
    (S := ((comM b).view.slice (slotR false)).set) (q := fullShare) (f := f) (Finset.Subset.refl _)) $$ H
  iintro H
  ihave Hk := Hk $$ %(((comM b).access (slotR false)).read (Elt F) f)
  iapply Hk
  iapply (slotAny_pts c b false).2
  iexists f
  iexact H

/-- and the write of it. -/
theorem store_slot {hb hx hm hc} {W : Vec F S4x512x1024 .bf16} {α : Type} {Q : α → sProp 𝕄} {kk : PUnit → Prog (TpuEff nD τ sig (Elt F) Λ₀ .tc) α} :
    slotAny (F := F) c b false
      ⊢ iprop((slot (F := F) c b false fullShare W -∗ wpT c (kk ⟨⟩) Q)
        -∗ wpT c (.op (.store (comM b) (Rect.unit (s := S2x4x512x1024) ![0, 0, 0, 0] S1x4x512x1024.size hb) (shapeCast S1x4x512x1024 W hc) Finset.univ hx hm) kk) Q) := by
  iintro H Hk
  ihave H := (slotAny_pts c b false).1 $$ H
  icases H with ⟨%f, H⟩
  iapply (wp_store 𝒱₀ (c : Thread nD τ) none Set.univ (m := comM b) (r := slotR false) (Mk := Finset.univ)
    (S := ((comM b).view.slice (slotR false)).set) (f := f) (Finset.Subset.refl _)) $$ H
  iintro H
  iapply Hk
  unfold slot owns
  iexists (((comM b).access (slotR false)).write (Elt F) f (shapeCast S1x4x512x1024 W hc) Finset.univ)
  isplitr
  · ipureintro
    funext j
    have h := congrFun (View.read_write_univ (v := (comM b).access (slotR false)) (Val := Elt F) f (shapeCast S1x4x512x1024 W hc))
      (Shape.reshapeEquiv (squeezes_S1x4x512x1024_S4x512x1024).numel_eq j)
    refine Eq.trans h ?_
    show W (Shape.reshapeEquiv _ (Shape.reshapeEquiv _ j)) = W j
    rw [Shape.reshapeEquiv_reshapeEquiv, Shape.reshapeEquiv_self]
  · ihave H := (Entails.of_eq (slot_pts (F := F) c b false (q := fullShare) _).symm) $$ H
    iexact H

end Slots

end Cert.MoeRing

end
-- ==== Proof.Body.lean ====
/-
# `Body`: a device's program from the barrier to the end

The barrier hands each device its neighbours' free slots; the device puts its own experts into the slots it keeps,
writes the shared product, and makes the trips of the ring. At the end both buffers are whole again and every
semaphore is at zero.
-/
module

public import proofs.«01_k».proof.Proof.Trip
public import proofs.«01_k».proof.Proof.Slots

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Role → ℕ)

/-! ## A direction at the start and at the end -/

/-- What a device has of a direction at the start: its places at the semaphores, the duties it is to pay, what it is owed,
and that the next device has come to its first arrival. -/
def begins (c : Dev nD) (b : Bool) : sProp 𝕄 :=
  iprop(sndAt c b 0 ∗ sndAt c b 1 ∗ rcvAt c b 0 ∗ rcvAt c b 1 ∗ crdAt c b 0
    ∗ sndToks c b 0 ∗ rcvToks c b 0 ∗ crdToks c b 0 ∗ rcvCreds c b 0 ∗ crdCreds c b 0 ∗ reached ER (rcvC (dst b c) b true) 0)

theorem begin_dir (c : Dev nD) (b : Bool) :
    iprop(begins c b ∗ slot c b false fullShare (wBlk m ρ c) ∗ slotAny (dst b c) b true) ⊢ StA m ρ c b 0 := by
  unfold StA
  rw [if_pos (show 0 < hops b by revert b; decide)]
  unfold begins Before
  rw [if_pos rfl]
  unfold perm
  iintro ⟨⟨H1, H2, H3, H4, H5, H6, H7, H8, H9, H10, Hr⟩, Hs, Hd⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iexact Hs
  isplitl [Hd]; · iexact Hd
  iexact Hr

theorem both (A : Bool → sProp 𝕄) (s : Bool) : iprop(A s ∗ A (!s)) ⊢ iprop(A false ∗ A true) := by
  cases s
  · exact BI.Entails.refl _
  · show iprop(A true ∗ A false) ⊢ iprop(A false ∗ A true)
    iintro ⟨H1, H2⟩; isplitl [H2] <;> iassumption

/-- The semaphores of a direction at zero. -/
def zeros (c : Dev nD) (b : Bool) : sProp 𝕄 :=
  iprop(semVal (crdC c b) 0 ∗ (semVal (sndC c b false) 0 ∗ semVal (sndC c b true) 0) ∗ semVal (rcvC c b false) 0 ∗ semVal (rcvC c b true) 0)

theorem end_dir (c : Dev nD) (b : Bool) :
    iprop(recs m ρ K ∗ Done m ρ c b) ⊢ |={Set.univ}=> iprop(comP (F := F) c b ∗ zeros c b) := by
  unfold Done sndAt rcvAt crdAt
  iintro ⟨#Hr, ⟨H1, -⟩, ⟨H2, -⟩, ⟨H3, -⟩, ⟨H4, -⟩, ⟨H5, -⟩, Hs, Hd⟩
  ihave #Hi1 := (inv_at m ρ K (c, .snd b (par (hops b)))) $$ Hr
  ihave #Hi2 := (inv_at m ρ K (c, .snd b (par (hops b + 1)))) $$ Hr
  ihave #Hi3 := (inv_at m ρ K (c, .rcv b (!par (hops b)))) $$ Hr
  ihave #Hi4 := (inv_at m ρ K (c, .rcv b (!par (hops b + 1)))) $$ Hr
  ihave #Hi5 := (inv_at m ρ K (c, .crd b)) $$ Hr
  imod (Rounds.cell_close ER (Rd m ρ) (Set.mem_univ (K (c, .snd b (par (hops b))))) (fun h => h) (R := hops b / 2)
    (duties_snd_later m ρ c b (le_refl (hops b)))) $$ [H1] with Hz1
  · isplitr; · iexact Hi1
    iexact H1
  imod (Rounds.cell_close ER (Rd m ρ) (Set.mem_univ (K (c, .snd b (par (hops b + 1))))) (fun h => h) (R := (hops b + 1) / 2)
    (duties_snd_later m ρ c b (Nat.le_succ (hops b)))) $$ [H2] with Hz2
  · isplitr; · iexact Hi2
    iexact H2
  imod (Rounds.cell_close ER (Rd m ρ) (Set.mem_univ (K (c, .rcv b (!par (hops b))))) (fun h => h) (R := hops b / 2)
    (duties_rcv_later m ρ c b (le_refl (hops b)))) $$ [H3] with Hz3
  · isplitr; · iexact Hi3
    iexact H3
  imod (Rounds.cell_close ER (Rd m ρ) (Set.mem_univ (K (c, .rcv b (!par (hops b + 1))))) (fun h => h) (R := (hops b + 1) / 2)
    (duties_rcv_later m ρ c b (Nat.le_succ (hops b)))) $$ [H4] with Hz4
  · isplitr; · iexact Hi4
    iexact H4
  imod (Rounds.cell_close ER (Rd m ρ) (Set.mem_univ (K (c, .crd b))) (fun h => h) (R := hops b - 1)
    (duties_crd_later m ρ c b)) $$ [H5] with Hz5
  · isplitr; · iexact Hi5
    iexact H5
  imodintro
  rw [par_succ]
  unfold zeros
  isplitl [Hs Hd]
  · iapply (slots_join c b)
    iapply (both (fun s => slotAny c b s) (par (hops b)))
    isplitl [Hs]; · unfold slotAny; iexists (held m ρ c b (hops b)); iexact Hs
    iexact Hd
  isplitl [Hz5]; · iexact Hz5
  isplitl [Hz1 Hz2]
  · iapply (both (fun s => semVal (sndC c b s) 0) (par (hops b)))
    isplitl [Hz1] <;> iassumption
  · iapply (both (fun s => semVal (rcvC c b s) 0) (!par (hops b)))
    isplitl [Hz3]; · iexact Hz3
    iexact Hz4

/-! ## The barrier -/

section Body
variable (c : Dev nD)
variable {a0 : Memref sig .tc .vmem S2048x512 .f32} {h0 : a0.IsWhole} {a1 : Memref sig .tc .vmem S512x64 .f32} {h1 : a1.IsWhole}
  {a2 : Memref sig .tc .vmem S2048x1 .i32} {h2 : a2.IsWhole} {a3 : Memref sig .tc .vmem S4x512x1024 .f32} {h3 : a3.IsWhole}
  {a4 : Memref sig .tc .vmem S512x1024 .f32} {h4 : a4.IsWhole} {a5 : Memref sig .tc .vmem S2048x1024 .f32} {h5 : a5.IsWhole}
  {a6 : Memref sig .tc .vmem S2x4x512x1024 .bf16} {h6 : a6.IsWhole} {a10 : Memref sig .tc .vmem S2x4x512x1024 .bf16} {h10 : a10.IsWhole}
  {s7 s8 s11 s12 : DmaSems sig S2} {s9 s13 : Sems sig S_}

/-- What a device has for the barrier. -/
def barrierStart : sProp 𝕄 :=
  iprop(atPos ER (barC c) 0 ∅ 0 ∗ cred (tallyAt (barC c) 1 2)
    ∗ (dutyTok ER (barC (dst true c)) 0 false ∗ reached ER (barC (dst true c)) 0)
    ∗ (dutyTok ER (barC (dst false c)) 0 true ∗ reached ER (barC (dst false c)) 0))

theorem barrier {Q : (Σ' (d0 : Dev nD) (v2 : BitVec 32) (v14 : BitVec 32), BitVec 32) → sProp 𝕄} :
    iprop(recs m ρ K ∗ owesE c (O₀ c) ∗ barrierStart c ∗ slotAny c false true ∗ slotAny c true true)
      ⊢ iprop((∀ v14, ∀ v25, (owesE c (dues c false 0 0 + dues c true 0 0) ∗ atPos ER (barC c) 1 ∅ 0 ∗ slotAny (dst false c) false true ∗ slotAny (dst true c) true true)
          -∗ Q ⟨c, devWord c, v14, v25⟩)
        -∗ wpT c (k0_part2 a0 h0 a1 h1 a2 h2 a3 h3 a4 h4 a5 h5 a6 h6 s7 s8 s9 a10 h10 s11 s12 s13) Q) := by
  rw [k0_part2_eq_skeleton]
  unfold k0_part2_skel
  simp only [semSignalWord, semWaitWord, Prog.lift, Prog.bind_op, Prog.bind_ret, Prog.pure_eq_ret]
  unfold wpT
  rw [wp_deviceId]
  simp only [dev1 c, dev2 c]
  have hd1 : false ∈ (Rd (F := F) m ρ).duties (barC (dst true c)) 0 := by rw [duties_bar]; exact Finset.mem_univ _
  have hd2 : true ∈ (Rd (F := F) m ρ).duties (barC (dst false c)) 0 := by rw [duties_bar]; exact Finset.mem_univ _
  have ha1 : (Rd (F := F) m ρ).amount (barC (dst true c)) 0 false = (1#32 : BitVec 32).toNat := amount_bar m ρ _ _ _
  have ha2 : (Rd (F := F) m ρ).amount (barC (dst false c)) 0 true = (1#32 : BitVec 32).toNat := amount_bar m ρ _ _ _
  have hp1 : (Rd (F := F) m ρ).payload (barC (dst true c)) 0 false = slotAny c false true := by
    rw [payload_bar]; unfold barPay; rw [show dst false (dst true c) = c from src_dst true c]
  have hp2 : (Rd (F := F) m ρ).payload (barC (dst false c)) 0 true = slotAny c true true := by
    rw [payload_bar]; unfold barPay; rw [show dst true (dst false c) = c from src_dst false c]
  have hmw := may_wait (F := F) (c := c) (sm := .reg barS) (v := 1) (by decide)
    (fun g i hg => ⟨(O₁_above c g i hg).1, Nat.lt_of_lt_of_le (by decide) (Nat.le_of_lt (O₁_above c g i hg).2.1), (O₁_above c g i hg).2.2⟩)
  have hk : 0 + (2#32 : BitVec 32).toNat = (Rd (F := F) m ρ).expect (barC c) 0 := by rw [expect_bar]; rfl
  unfold owesE barrierStart O₀ devWord
  iintro ⟨#Hr, ⟨%W, HO⟩, ⟨Hat, Hcr, ⟨Ht1, #Hr1⟩, Ht2, #Hr2⟩, Hs1, Hs2⟩ Hk
  ihave #Hl := (levs_of m ρ K) $$ Hr
  ihave #Hi := (inv_at m ρ K (c, .bar)) $$ Hr
  ihave #Hj1 := (inv_at m ρ K (dst true c, .bar)) $$ Hr
  ihave #Hj2 := (inv_at m ρ K (dst false c, .bar)) $$ Hr
  iapply (Rounds.wp_signal 𝒱₀ ER (Rd m ρ) (c : Thread nD τ) none (dst := ((dst true c : Dev nD) : Thread nD τ)) (κ := K (dst true c, .bar))
    (d := false) hd1 ha1 1 (O₁ c + tallyAt (barC (dst false c)) 1 1) rfl (W := W)) $$ [HO Ht1 Hs1]
  · isplitr; · iexact Hj1
    isplitl [HO]; · iexact HO
    isplitl [Ht1]; · iexact Ht1
    isplitl [Hs1]; · rw [hp1]; iexact Hs1
    iexact Hr1
  iintro HO
  iapply (Rounds.wp_signal 𝒱₀ ER (Rd m ρ) (c : Thread nD τ) none (dst := ((dst false c : Dev nD) : Thread nD τ)) (κ := K (dst false c, .bar))
    (d := true) hd2 ha2 1 (O₁ c) rfl (W := W)) $$ [HO Ht2 Hs2]
  · isplitr; · iexact Hj2
    isplitl [HO]; · iexact HO
    isplitl [Ht2]; · iexact Ht2
    isplitl [Hs2]; · rw [hp2]; iexact Hs2
    iexact Hr2
  iintro HO
  iapply (Rounds.wp_wait_rest_token 𝒱₀ ER (Rd m ρ) (c : Thread nD τ) none (κ := K (c, .bar))
    (wpE_semWait_eq 𝒱₀ (c : Thread nD τ) none Set.univ) (Set.mem_univ _) 1 (O := O₁ c) (W := W) (R := 0) (m := 0) (T := ∅)
    hk) $$ [Hcr HO Hat]
  · isplitr; · iexact Hi
    isplitl [Hcr]; · iexact Hcr
    isplitl [HO]; · iexact HO
    isplitr; · iapply hmw; iexact Hl
    iexact Hat
  iintro ⟨HO, Hat, -, Hpay⟩
  have er := rest_bar m ρ c
  ihave Hp := (Entails.of_eq er) $$ Hpay
  unfold barPay
  icases Hp with ⟨Hp1, Hp2⟩
  rw [wp_ret]
  imodintro
  iapply Hk
  isplitl [HO]; · iexists (insert (SemLoc.reg barS, 1) W); iexact HO
  isplitl [Hat]; · iexact Hat
  isplitl [Hp1] <;> iassumption

end Body

/-! ## The device's own share -/

section Whole
variable (c : Dev nD)
variable {h0 : (Memref.whole cc0_stg0_0).IsWhole} {h1 : (Memref.whole cc0_stg1_0).IsWhole} {h2 : (Memref.whole cc0_stg2_0).IsWhole}
  {h3 : (Memref.whole cc0_stg3_0).IsWhole} {h4 : (Memref.whole cc0_stg4_0).IsWhole} {h5 : (Memref.whole cc0_stg5_0).IsWhole}
  {h6 : (Memref.whole cc0_scratch0).IsWhole} {h10 : (Memref.whole cc0_scratch4).IsWhole}

/-- The arguments, staged. -/
def args : sProp 𝕄 :=
  iprop(((c : Thread nD τ).loc cc0_stg0_0 ↦{fullShare} xBlk m ρ c) ∗ ((c : Thread nD τ).loc cc0_stg1_0 ↦{fullShare} rBlk m ρ c)
    ∗ ((c : Thread nD τ).loc cc0_stg2_0 ↦{fullShare} iBlk m ρ c) ∗ ((c : Thread nD τ).loc cc0_stg3_0 ↦{fullShare} eBlk m ρ c)
    ∗ ((c : Thread nD τ).loc cc0_stg4_0 ↦{fullShare} sBlk m ρ c))

theorem zero3 : (![0, 0, 0] : Fin 3 → ℕ) = fun _ => 0 := by funext a; fin_cases a <;> rfl

/-- What a device loads, and its slots and the shared product written. -/
theorem own_share {g : Vec F S2048x1024 .f32} {Q : (Σ' (v32 : FVec F S2048x512 .f32) (v46 : IVec S2048x1 32) (v53 : FVec F S2048x1 .f32), FVec F S4x512x1024 .bf16) → sProp 𝕄} :
    iprop(args m ρ c ∗ outP c g ∗ slotAny c false false)
      ⊢ iprop(((args m ρ c ∗ outP c (outTrip m ρ c 0) ∗ slot c false false fullShare (wBlk m ρ c))
          -∗ Q ⟨xV m ρ c, idxV m ρ c, gateV m ρ c, wBlk m ρ c⟩)
        -∗ wpT c (k0_part3 (Memref.whole cc0_stg0_0) h0 (Memref.whole cc0_stg1_0) h1 (Memref.whole cc0_stg2_0) h2 (Memref.whole cc0_stg3_0) h3
          (Memref.whole cc0_stg4_0) h4 (Memref.whole cc0_stg5_0) h5 (Memref.whole cc0_scratch0) h6 cc0_scratch1 cc0_scratch2 cc0_scratch3
          (Memref.whole cc0_scratch4) h10 cc0_scratch5 cc0_scratch6 cc0_scratch7) Q) := by
  rw [k0_part3_eq_skeleton]
  unfold k0_part3_skel
  simp only [Prog.lift, Prog.bind_op, Prog.bind_ret, Prog.pure_eq_ret]
  unfold args xV idxV gateV wBlk
  iintro ⟨⟨Hx, Hr, Hi, He, Hs⟩, Ho, Hc⟩ Hk
  iapply (wp_load 𝒱₀ (c : Thread nD τ) none Set.univ (m := Memref.whole cc0_stg0_0) (Finset.subset_univ _)) $$ Hx; iintro Hx
  rw [show (Memref.whole cc0_stg0_0).view.readAt (Elt F) (Rect.unit (s := S2048x512) ![0, 0] S2048x512.size inb_S2048x512_S2048x512_0_0).toLoadRect (xBlk m ρ c) = xBlk m ρ c
    from Memref.readAt_unit_zero (Elt F) cc0_stg0_0 out_zero _ _]
  iapply (wp_load 𝒱₀ (c : Thread nD τ) none Set.univ (m := Memref.whole cc0_stg1_0) (Finset.subset_univ _)) $$ Hr; iintro Hr
  rw [show (Memref.whole cc0_stg1_0).view.readAt (Elt F) (Rect.unit (s := S512x64) ![0, 0] S512x64.size inb_S512x64_S512x64_0_0).toLoadRect (rBlk m ρ c) = rBlk m ρ c
    from Memref.readAt_unit_zero (Elt F) cc0_stg1_0 out_zero _ _]
  iapply (wp_load 𝒱₀ (c : Thread nD τ) none Set.univ (m := Memref.whole cc0_stg2_0) (Finset.subset_univ _)) $$ Hi; iintro Hi
  rw [show (Memref.whole cc0_stg2_0).view.readAt (Elt F) (Rect.unit (s := S2048x1) ![0, 0] S2048x1.size inb_S2048x1_S2048x1_0_0).toLoadRect (iBlk m ρ c) = iBlk m ρ c
    from Memref.readAt_unit_zero (Elt F) cc0_stg2_0 out_zero _ _]
  iapply (wp_load 𝒱₀ (c : Thread nD τ) none Set.univ (m := Memref.whole cc0_stg4_0) (Finset.subset_univ _)) $$ Hs; iintro Hs
  rw [show (Memref.whole cc0_stg4_0).view.readAt (Elt F) (Rect.unit (s := S512x1024) ![0, 0] S512x1024.size inb_S512x1024_S512x1024_0_0).toLoadRect (sBlk m ρ c) = sBlk m ρ c
    from Memref.readAt_unit_zero (Elt F) cc0_stg4_0 out_zero _ _]
  iapply (load_out c) $$ Ho; iintro Ho
  iapply (store_out c) $$ Ho; iintro Ho
  iapply (wp_load 𝒱₀ (c : Thread nD τ) none Set.univ (m := Memref.whole cc0_stg3_0) (Finset.subset_univ _)) $$ He; iintro He
  rw [show (Memref.whole cc0_stg3_0).view.readAt (Elt F) (Rect.unit (s := S4x512x1024) ![0, 0, 0] S4x512x1024.size inb_S4x512x1024_S4x512x1024_0_0_0).toLoadRect (eBlk m ρ c) = eBlk m ρ c
    from Memref.readAt_unit_zero (Elt F) cc0_stg3_0 zero3 _ _]
  iapply (load_slot c false) $$ Hc; iintro %w Hc
  iapply (store_slot c false (W := k0_pay8 (eBlk m ρ c))) $$ Hc; iintro Hc
  unfold wpT
  rw [wp_ret]
  imodintro
  iapply Hk
  isplitl [Hx Hr Hi He Hs]
  · isplitl [Hx]; · iexact Hx
    isplitl [Hr]; · iexact Hr
    isplitl [Hi]; · iexact Hi
    isplitl [He]; · iexact He
    iexact Hs
  isplitl [Ho]; · iexact Ho
  iexact Hc

/-! ## The whole program -/

/-- What a device has at the start, besides its staged buffers, -/
def starts : sProp 𝕄 := iprop(barrierStart c ∗ begins c false ∗ begins c true)
/-- and the semaphores it ends with. -/
def ends : sProp 𝕄 := iprop(semVal (barC c) 0 ∗ zeros c false ∗ zeros c true)

theorem trips_t1 : k0_t1_loop.trips = 9 := by decide +kernel

theorem program {g : Vec F S2048x1024 .f32} {Q : PUnit → sProp 𝕄} :
    iprop(recs m ρ K ∗ owesE c (O₀ c) ∗ starts c ∗ (comP c false ∗ comP c true) ∗ args m ρ c ∗ outP c g)
      ⊢ iprop(((owesE c 0 ∗ ends c ∗ (comP c false ∗ comP c true) ∗ args m ρ c ∗ outP c (outAt m ρ c)) -∗ Q ⟨⟩)
        -∗ wpT c (cc0_body (Memref.whole cc0_stg0_0) h0 (Memref.whole cc0_stg1_0) h1 (Memref.whole cc0_stg2_0) h2 (Memref.whole cc0_stg3_0) h3
          (Memref.whole cc0_stg4_0) h4 (Memref.whole cc0_stg5_0) h5 (Memref.whole cc0_scratch0) h6 cc0_scratch1 cc0_scratch2 cc0_scratch3
          (Memref.whole cc0_scratch4) h10 cc0_scratch5 cc0_scratch6 cc0_scratch7) Q) := by
  rw [cc0_body_eq_skeleton]
  unfold cc0_body_skel
  simp only [Prog.lift, Prog.bind_op, Prog.bind_ret, Prog.pure_eq_ret]
  unfold wpT
  rw [wp_bind]
  unfold starts
  iintro ⟨#Hr, HO, ⟨Hb, Hf, Ht⟩, ⟨Hc0, Hc1⟩, Ha, Ho⟩ Hk
  ihave Hc0 := (slots_split c false) $$ Hc0
  icases Hc0 with ⟨Hc00, Hc01⟩
  ihave Hc1 := (slots_split c true) $$ Hc1
  icases Hc1 with ⟨Hc10, Hc11⟩
  iapply (barrier m ρ K c) $$ [HO Hb Hc01 Hc11]
  · isplitr; · iexact Hr
    isplitl [HO]; · iexact HO
    isplitl [Hb]; · iexact Hb
    isplitl [Hc01] <;> iassumption
  iintro %v14 %v25 ⟨HO, Hat, Hp0, Hp1⟩
  dsimp only
  rw [wp_bind]
  iapply (own_share m ρ c) $$ [Ha Ho Hc00]
  · isplitl [Ha]; · iexact Ha
    isplitl [Ho] <;> iassumption
  iintro ⟨Ha, Ho, Hs0⟩
  dsimp only
  iapply (load_slot c true) $$ Hc10; iintro %w Hc10
  iapply (store_slot c true (W := wBlk m ρ c)) $$ Hc10; iintro Hs1
  ihave Hf := (begin_dir m ρ c false) $$ [Hf Hs0 Hp0]
  · isplitl [Hf]; · iexact Hf
    isplitl [Hs0] <;> iassumption
  ihave Ht := (begin_dir m ρ c true) $$ [Ht Hs1 Hp1]
  · isplitl [Ht]; · iexact Ht
    isplitl [Hs1] <;> iassumption
  have hbody : ∀ (t : Fin k0_t1_loop.trips) (acc : Unit),
      iprop(recs m ρ K ∗ owesE c (dues c false t.val t.val + dues c true t.val t.val) ∗ StA m ρ c false t.val ∗ StA m ρ c true t.val ∗ outP c (outTrip m ρ c t.val))
        ⊢ wpT c (k0_t1_body (Memref.whole cc0_stg0_0) h0 (Memref.whole cc0_stg1_0) h1 (Memref.whole cc0_stg2_0) h2 (Memref.whole cc0_stg3_0) h3
          (Memref.whole cc0_stg4_0) h4 (Memref.whole cc0_stg5_0) h5 (Memref.whole cc0_scratch0) h6 cc0_scratch1 cc0_scratch2 cc0_scratch3
          (Memref.whole cc0_scratch4) h10 cc0_scratch5 cc0_scratch6 cc0_scratch7 c (devWord c) v14 v25 (xV m ρ c) (idxV m ρ c) (gateV m ρ c) t acc)
          (fun _ => iprop(recs m ρ K ∗ owesE c (dues c false (t.val + 1) (t.val + 1) + dues c true (t.val + 1) (t.val + 1)) ∗ StA m ρ c false (t.val + 1) ∗ StA m ρ c true (t.val + 1)
            ∗ outP c (outTrip m ρ c (t.val + 1)))) := by
    intro t acc
    iintro ⟨#Hr, H⟩
    iapply (wp_frame_l _ _ _)
    isplitr; · iexact Hr
    iapply (trip m ρ K c t rfl rfl rfl)
    isplitr; · iexact Hr
    iexact H
  iapply (Scf.wp_for_bind frame (wpE (defs₀ (F := F)) 𝒱₀ (c : Thread nD τ) none) Set.univ _ _ _ k0_t1_ok ⟨⟩ _
    (fun n (_ : Unit) => iprop(recs m ρ K ∗ owesE c (dues c false n n + dues c true n n) ∗ StA m ρ c false n ∗ StA m ρ c true n ∗ outP c (outTrip m ρ c n))) hbody)
    $$ [HO Hf Ht Ho]
  · isplitr; · iexact Hr
    isplitl [HO]; · iexact HO
    isplitl [Hf]; · iexact Hf
    isplitl [Ht] <;> iassumption
  iintro %acc ⟨-, HO, Hf, Ht, Ho⟩
  have e0 : dues c false k0_t1_loop.trips k0_t1_loop.trips + dues c true k0_t1_loop.trips k0_t1_loop.trips = 0 := by
    rw [trips_t1, dues_end c false (by decide) (by decide), dues_end c true (by decide) (by decide), add_zero]
  ihave HO := (show owesE (F := F) c (dues c false k0_t1_loop.trips k0_t1_loop.trips + dues c true k0_t1_loop.trips k0_t1_loop.trips) ⊢ owesE c 0 from Entails.of_eq (congrArg _ e0)) $$ HO
  have ef : StA m ρ c false k0_t1_loop.trips = Done m ρ c false := by rw [trips_t1]; exact if_neg (by decide)
  have et : StA m ρ c true k0_t1_loop.trips = Done m ρ c true := by rw [trips_t1]; exact if_neg (by decide)
  ihave Hf := (Entails.of_eq ef) $$ Hf
  ihave Ht := (Entails.of_eq et) $$ Ht
  rw [wp_ret]
  ihave Hf := (end_dir m ρ K c false) $$ [Hf]
  · isplitr; · iexact Hr
    iexact Hf
  imod Hf with ⟨Hc0, Hz0⟩
  ihave Ht := (end_dir m ρ K c true) $$ [Ht]
  · isplitr; · iexact Hr
    iexact Ht
  imod Ht with ⟨Hc1, Hz1⟩
  ihave #Hi := (inv_at m ρ K (c, .bar)) $$ Hr
  imod (Rounds.cell_close ER (Rd m ρ) (Set.mem_univ (K (c, .bar))) (fun h => h) (R := 1) (duties_bar_later m ρ c)) $$ [Hat] with Hz
  · isplitr; · iexact Hi
    iexact Hat
  imodintro
  iapply Hk
  isplitl [HO]; · iexact HO
  unfold ends
  isplitl [Hz Hz0 Hz1]
  · isplitl [Hz]; · iexact Hz
    isplitl [Hz0] <;> iassumption
  isplitl [Hc0 Hc1]
  · isplitl [Hc0] <;> iassumption
  isplitl [Ha]; · iexact Ha
  iexact Ho

end Whole

end Cert.MoeRing

end
-- ==== Proof.Alloc.lean ====
/-
# `Alloc`: dealing out the ring's places, duties and credit at the launch

Every device's eleven semaphores get their invariants, the tokens of their duties go to the devices that pay them, and
what all devices together owe to a device's semaphores becomes that device's credit.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and their duties -/

theorem cell_injective : Function.Injective (cell : Dev nD × Role → GSem nD τ sig) := fun x y h =>
  Prod.ext (congrArg (fun g : GSem nD τ sig => g.1.1) h) (Role.sem_injective (congrArg Prod.snd h))

def ringCells : Finset (GSem nD τ sig) := Finset.univ.map ⟨cell, cell_injective⟩

abbrev Duty : Type := GSem nD τ sig × ℕ × Bool

/-- The arrivals' places in their rounds tell them apart. -/
theorem half_par_inj {h k : ℕ} (e : h / 2 = k / 2) (e' : par h = par k) : h = k := by
  have h1 := two_div_par h
  have h2 := two_div_par k
  rw [e, e'] at h1
  exact h1.symm.trans h2

theorem sndS_inj {b s s' : Bool} (h : sndS b s = sndS b s') : s = s' := by revert b s s'; decide
theorem rcvS_inj {b s s' : Bool} (h : rcvS b s = rcvS b s') : s = s' := by revert b s s'; decide

theorem snd_inj (c : Dev nD) (b : Bool) : Function.Injective fun k : ℕ => ((sndC c b (par k), k / 2, false) : Duty) := fun h k e => by
  have e1 : sndS b (par h) = sndS b (par k) := SemLoc.dma.inj (congrArg (fun x : Duty => x.1.2) e)
  exact half_par_inj (congrArg (fun x : Duty => x.2.1) e) (sndS_inj e1)
theorem rcv_inj (c : Dev nD) (b : Bool) : Function.Injective fun k : ℕ => ((rcvC c b (!par k), k / 2, false) : Duty) := fun h k e => by
  have e1 : rcvS b (!par h) = rcvS b (!par k) := SemLoc.dma.inj (congrArg (fun x : Duty => x.1.2) e)
  exact half_par_inj (congrArg (fun x : Duty => x.2.1) e) (Bool.not_inj (rcvS_inj e1))
theorem crd_inj (c : Dev nD) (b : Bool) : Function.Injective fun k : ℕ => ((crdC c b, k, false) : Duty) := fun h k e =>
  congrArg (fun x : Duty => x.2.1) e
theorem bar_inj (c : Dev nD) : Function.Injective fun d : Bool => ((barC c, 0, d) : Duty) := fun h k e =>
  congrArg (fun x : Duty => x.2.2) e

/-- A device's duties, kind by kind: the barrier's, then by direction the credits', the sends' and the arrivals'. -/
def piece (c : Dev nD) : Fin 7 → Finset Duty
  | 0 => Finset.univ.map ⟨_, bar_inj c⟩
  | 1 => (Finset.Ico 0 (hops false - 1)).map ⟨_, crd_inj c false⟩
  | 2 => (Finset.Ico 0 (hops true - 1)).map ⟨_, crd_inj c true⟩
  | 3 => (Finset.Ico 0 (hops false)).map ⟨_, snd_inj c false⟩
  | 4 => (Finset.Ico 0 (hops true)).map ⟨_, snd_inj c true⟩
  | 5 => (Finset.Ico 0 (hops false)).map ⟨_, rcv_inj c false⟩
  | 6 => (Finset.Ico 0 (hops true)).map ⟨_, rcv_inj c true⟩

/-- The kind of a role. -/
def kind : Option Role → Fin 7
  | some .bar => 0 | some (.crd false) => 1 | some (.crd true) => 2 | some (.snd false _) => 3 | some (.snd true _) => 4
  | some (.rcv false _) => 5 | some (.rcv true _) => 6 | none => 0

theorem kind_of_mem (c : Dev nD) (k : Fin 7) (x : Duty) (hx : x ∈ piece c k) : (x.1.1.1, kind (roleOf x.1.2)) = (c, k) := by
  fin_cases k <;>
  · obtain ⟨y, -, rfl⟩ := Finset.mem_map.mp hx
    refine Prod.ext rfl ?_
    first
      | exact congrArg kind roleOf_bar
      | exact congrArg kind (roleOf_crd false)
      | exact congrArg kind (roleOf_crd true)
      | exact congrArg kind (roleOf_snd _ _)
      | exact congrArg kind (roleOf_rcv _ _)

def ringToks : Finset Duty := Finset.univ.biUnion fun i : Dev nD × Fin 7 => piece i.1 i.2

theorem piece_disjoint : ((Finset.univ : Finset (Dev nD × Fin 7)) : Set (Dev nD × Fin 7)).PairwiseDisjoint fun i => piece i.1 i.2 :=
  fun i _ j _ hij => Finset.disjoint_left.mpr fun x hx hy => hij ((kind_of_mem i.1 i.2 x hx).symm.trans (kind_of_mem j.1 j.2 x hy))

/-- Holding something of every element of a union of sets, no two of which meet, is holding it set by set. -/
theorem bigSep_pieces (S : Finset (Dev nD × Fin 7)) (Φ : Duty → sProp 𝕄) :
    bigSep (S.biUnion fun i => piece i.1 i.2) Φ = bigSep S fun i => bigSep (piece i.1 i.2) Φ := by
  induction S using Finset.induction_on with
  | empty => rfl
  | insert i S hi ih =>
    have hd : Disjoint (piece i.1 i.2) (S.biUnion fun i => piece i.1 i.2) :=
      (Finset.disjoint_biUnion_right _ _ _).mpr fun j hj =>
        piece_disjoint (Finset.mem_coe.mpr (Finset.mem_univ i)) (Finset.mem_coe.mpr (Finset.mem_univ j)) fun e => hi (e ▸ hj)
    rw [Finset.biUnion_insert, bigSep_union hd, ih, bigSep_insert hi]

/-- A device's own arrivals and credits, as tokens. -/
def rcvOwn (c : Dev nD) (b : Bool) : sProp 𝕄 := bigSep (Finset.Ico 0 (hops b)) fun k => dutyTok ER (rcvC c b (!par k)) (k / 2) false
def crdOwn (c : Dev nD) (b : Bool) : sProp 𝕄 := bigSep (Finset.Ico 0 (hops b - 1)) fun k => dutyTok ER (crdC c b) k false

/-- The tokens of the duties at a device's own semaphores. -/
def toks (c : Dev nD) : sProp 𝕄 :=
  iprop((dutyTok ER (barC c) 0 false ∗ dutyTok ER (barC c) 0 true) ∗ crdOwn c false ∗ crdOwn c true ∗ sndToks c false 0 ∗ sndToks c true 0
    ∗ rcvOwn c false ∗ rcvOwn c true)
/-- The tokens of the duties that a device pays. -/
def payToks (c : Dev nD) : sProp 𝕄 :=
  iprop((dutyTok ER (barC (dst true c)) 0 false ∗ dutyTok ER (barC (dst false c)) 0 true) ∗ crdToks c false 0 ∗ crdToks c true 0 ∗ sndToks c false 0
    ∗ sndToks c true 0 ∗ rcvToks c false 0 ∗ rcvToks c true 0)

theorem bigSep_bool (Φ : Bool → sProp 𝕄) : bigSep Finset.univ Φ = iprop(Φ false ∗ Φ true) := bigSep_univ_eq_bigSepL [false, true] (by decide) (by decide) Φ
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem toks_eq : bigSep ringToks (fun x => (dutyTok ER x.1 x.2.1 x.2.2 : sProp 𝕄)) = bigSep Finset.univ fun c : Dev nD => toks c := by
  unfold ringToks
  rw [bigSep_pieces, bigSep_univ_prod]
  refine bigSep_congr fun c _ => ?_
  rw [bigSep_seven]
  dsimp only [piece]
  simp only [bigSep_map, bigSep_bool]
  rfl

/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv (ring true) (fun c : Dev nD => (dutyTok ER (barC c) 0 false : sProp 𝕄)),
    bigSep_univ_equiv (ring false) (fun c : Dev nD => (dutyTok ER (barC c) 0 true : sProp 𝕄)),
    bigSep_univ_equiv (ring false).symm (fun c : Dev nD => (crdOwn c false : sProp 𝕄)),
    bigSep_univ_equiv (ring true).symm (fun c : Dev nD => (crdOwn c true : sProp 𝕄)),
    bigSep_univ_equiv (ring false) (fun c : Dev nD => (rcvOwn c false : sProp 𝕄)),
    bigSep_univ_equiv (ring true) (fun c : Dev nD => (rcvOwn c true : sProp 𝕄))]
  exact Entails.of_eq rfl

/-! ## What each device starts with -/

/-- The places at a device's own semaphores. -/
def places (c : Dev nD) : sProp 𝕄 := bigSep Finset.univ fun r : Role => atPos ER (cell (c, r)) 0 ∅ 0
def marks : sProp 𝕄 := bigSep Finset.univ fun x : Dev nD × Role => reached ER (cell x) 0
instance marks_persistent : BI.Persistent (marks (F := F)) := by unfold marks; infer_instance

theorem mark_at (x : Dev nD × Role) : (marks (F := F)) ⊢ reached ER (cell x) 0 := by unfold marks; exact bigSep_elim (Finset.mem_univ x)

theorem bigSep_role (Φ : Role → sProp 𝕄) : bigSep Finset.univ Φ = bigSepL roles Φ := bigSep_univ_eq_bigSepL roles (by decide) (by decide) Φ

/-- What the launch deals a device, -/
def G (c : Dev nD) : sProp 𝕄 := iprop((bigSep Finset.univ fun r : Role => roundState ER (Rd m ρ) (cell (c, r)) 0) ∗ (places c
  ∗ bigSep Finset.univ fun r : Role => reached ER (cell (c, r)) 0) ∗ toks c)

def invsAll (K : Dev nD × Role → ℕ) : sProp 𝕄 := bigSep Finset.univ fun x : Dev nD × Role => cellInv ER (Rd m ρ) (K x) (cell x)
instance invsAll_persistent (K : Dev nD × Role → ℕ) : BI.Persistent (invsAll (F := F) m ρ K) := by unfold invsAll; infer_instance

/-- and what it has after all have set up their semaphores. -/
def G' (c : Dev nD) : sProp 𝕄 := iprop(∃ K, (invsAll m ρ K ∗ marks) ∗ places c ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun r : Role => Φ (cell (c, r)) := by
    unfold ringCells; rw [bigSep_map, bigSep_univ_prod]; rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat]; · unfold places; iexact Hat
    iexact Hr
  iexact Htok

/-! ## The semaphores -/

/-- The kernel's own semaphores, by direction: the credit, the two of the sends, the two of the arrivals. -/
def osem : Fin 10 → SemLoc sig
  | 0 => .reg (crdS false) | 1 => .dma (sndS false false) | 2 => .dma (sndS false true) | 3 => .dma (rcvS false false) | 4 => .dma (rcvS false true)
  | 5 => .reg (crdS true) | 6 => .dma (sndS true false) | 7 => .dma (sndS true true) | 8 => .dma (rcvS true false) | 9 => .dma (rcvS true true)

theorem ownSemFacts : Pipeline.OwnSemFacts cfg0.spec osem := by decide

abbrev own0 (c : Dev nD) : sProp 𝕄 := Pipeline.ownSems0 (Ix := ℕ) (Name := ℕ) (U := UU) (Lvl := ℕ) (Val := Elt F) (τ := τ) osem c

theorem ownSems0_eq (c : Dev nD) : (own0 c : sProp 𝕄)
    = iprop(semVal (crdC c false) 0 ∗ semVal (sndC c false false) 0 ∗ semVal (sndC c false true) 0 ∗ semVal (rcvC c false false) 0 ∗ semVal (rcvC c false true) 0
      ∗ semVal (crdC c true) 0 ∗ semVal (sndC c true false) 0 ∗ semVal (sndC c true true) 0 ∗ semVal (rcvC c true false) 0 ∗ semVal (rcvC c true true) 0) := by
  unfold own0; rw [Pipeline.ownSems0_eq_of_list c osem [0, 1, 2, 3, 4, 5, 6, 7, 8, 9] (by decide) (by decide)]; rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem roles_sems (c : Dev nD) : (bigSep Finset.univ fun r : Role => semVal (cell (c, r)) 0 : sProp 𝕄)
    = iprop(semVal (barC c) 0 ∗ semVal (crdC c false) 0 ∗ semVal (crdC c true) 0 ∗ semVal (sndC c false false) 0 ∗ semVal (sndC c false true) 0
      ∗ semVal (sndC c true false) 0 ∗ semVal (sndC c true true) 0 ∗ semVal (rcvC c false false) 0 ∗ semVal (rcvC c false true) 0
      ∗ semVal (rcvC c true false) 0 ∗ semVal (rcvC c true true) 0) := by
  rw [bigSep_role]; rfl

theorem sems0 (c : Dev nD) : iprop(own0 c ∗ unscopedSems0 c) ⊢ (bigSep Finset.univ fun r : Role => semVal (cell (c, r)) 0 : sProp 𝕄) := by
  rw [ownSems0_eq, unscopedSems0_eq, roles_sems]
  iintro ⟨⟨H0, H1, H2, H3, H4, H5, H6, H7, H8, H9⟩, HB⟩
  isplitl [HB]; · iexact HB
  isplitl [H0]; · iexact H0
  isplitl [H5]; · iexact H5
  isplitl [H1]; · iexact H1
  isplitl [H2]; · iexact H2
  isplitl [H6]; · iexact H6
  isplitl [H7]; · iexact H7
  isplitl [H3]; · iexact H3
  isplitl [H4]; · iexact H4
  isplitl [H8] <;> iassumption

theorem core_alloc (c : Dev nD) :
    iprop(own0 c ∗ unscopedSems0 c ∗ G m ρ c)
      ⊢ |={Set.univ}=> iprop((bigSep Finset.univ fun r : Role => iprop(∃ κ : ℕ, cellInv ER (Rd m ρ) κ (cell (c, r))))
          ∗ (places c ∗ bigSep Finset.univ fun r : Role => reached ER (cell (c, r)) 0) ∗ toks c) := by
  unfold G
  iintro ⟨Hos, Hus, Hst, Hat, Htok⟩
  ihave Hv := (sems0 (F := F) c) $$ [Hos Hus]
  · isplitl [Hos] <;> iassumption
  imod (show iprop((bigSep Finset.univ fun r : Role => semVal (cell (c, r)) 0) ∗ bigSep Finset.univ fun r : Role => roundState ER (Rd m ρ) (cell (c, r)) 0)
      ⊢ (|={Set.univ}=> bigSep Finset.univ fun r => iprop(∃ κ : ℕ, cellInv ER (Rd m ρ) κ (cell (c, r))) : sProp 𝕄) from by
        rw [← bigSep_sep']
        exact (bigSep_mono fun r _ => (Rounds.body_intro ER (Rd m ρ) (cell (c, r))).trans inv_alloc).trans (bigSep_fupd _ _)) $$ [Hv Hst] with Hinv
  · isplitl [Hv] <;> iassumption
  imodintro
  isplitl [Hinv]; · iexact Hinv
  isplitl [Hat]; · iexact Hat
  iexact Htok

theorem share_out (K : Dev nD × Role → ℕ) (c : Dev nD) : iprop((invsAll m ρ K ∗ marks) ∗ (places c ∗ payToks c)) ⊢ G' m ρ c := by
  unfold G'; iintro H; iexists K; iexact H

theorem regroup :
    (bigSep Finset.univ fun c : Dev nD => iprop((bigSep Finset.univ fun r : Role => iprop(∃ κ : ℕ, cellInv ER (Rd m ρ) κ (cell (c, r))))
          ∗ (places c ∗ bigSep Finset.univ fun r : Role => reached ER (cell (c, r)) 0) ∗ toks c) : sProp 𝕄)
      ⊢ bigSep Finset.univ (G' m ρ) := by
  simp only [bigSep_sep']
  rw [← bigSep_univ_prod (fun x : Dev nD × Role => iprop(∃ κ : ℕ, cellInv ER (Rd m ρ) κ (cell x))),
    ← bigSep_univ_prod (fun x : Dev nD × Role => (reached ER (cell x) 0 : sProp 𝕄))]
  iintro ⟨HI, ⟨Hat, #HR⟩, Htok⟩
  ihave HK := (BI.bigSep_exists_pi Finset.univ (fun (x : Dev nD × Role) (κ : ℕ) => (cellInv ER (Rd m ρ) κ (cell x) : sProp 𝕄))) $$ HI
  icases HK with ⟨%K, #HI⟩
  ihave Htok := (toks_around (F := F)) $$ Htok
  iapply (bigSep_with_persistent (R := iprop(invsAll m ρ K ∗ marks)) fun c _ => share_out m ρ K c)
  isplitr
  · unfold invsAll marks; isplitl; · iexact HI
    iexact HR
  · iapply (Entails.of_eq (bigSep_sep' Finset.univ (fun c : Dev nD => (places c : sProp 𝕄)) payToks).symm)
    isplitl [Hat]; · iexact Hat
    iexact Htok

theorem glob : (bigSep Finset.univ fun c => iprop(own0 c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credit -/

/-- What a direction's devices owe is each device's credit there. -/
theorem creds_dir (b : Bool) (c : Dev nD) : (Pipeline.launchCred (fun d => dues d b 0 0) c : sProp 𝕄) ⊢ iprop(rcvCreds c b 0 ∗ crdCreds c b 0) := by
  unfold dues
  rw [Pipeline.launchCred_add, Pipeline.launchCred_sum, Pipeline.launchCred_sum]
  unfold rcvCreds crdCreds
  exact BIClass.sep_mono (bigSep_mono fun k _ => Pipeline.launchCred_tallyAt (.dma (rcvS b (!par k))) (dst b) (src b) (dst_src b) (src_dst b) _ _ c)
    (bigSep_mono fun k _ => Pipeline.launchCred_tallyAt (.reg (crdS b)) (src b) (dst b) (src_dst b) (dst_src b) _ _ c)

theorem cred_bar (b : Bool) (c : Dev nD) : (Pipeline.launchCred (fun d => tallyAt (barC (dst b d)) 1 1) c : sProp 𝕄) ⊢ cred (tallyAt (barC c) 1 1) :=
  Pipeline.launchCred_tallyAt (.reg barS) (dst b) (src b) (dst_src b) (src_dst b) _ _ c

theorem creds (c : Dev nD) : (Pipeline.launchCred O₀ c : sProp 𝕄)
    ⊢ iprop(cred (tallyAt (barC c) 1 2) ∗ (rcvCreds c false 0 ∗ crdCreds c false 0) ∗ (rcvCreds c true 0 ∗ crdCreds c true 0)) := by
  have e : (O₀ : Dev nD → CellTallies nD τ sig ℕ)
      = fun d => ((dues d false 0 0 + dues d true 0 0) + tallyAt (barC (dst false d)) 1 1) + tallyAt (barC (dst true d)) 1 1 := rfl
  rw [e, Pipeline.launchCred_add, Pipeline.launchCred_add, Pipeline.launchCred_add, ← tallyAt_add (barC c) 1 1 1]
  iintro ⟨⟨⟨H1, H2⟩, H3⟩, H4⟩
  ihave H1 := (creds_dir (F := F) false c) $$ H1
  ihave H2 := (creds_dir (F := F) true c) $$ H2
  ihave H3 := (cred_bar (F := F) false c) $$ H3
  ihave H4 := (cred_bar (F := F) true c) $$ H4
  isplitl [H3 H4]
  · iapply (cred_add (tallyAt (barC c) 1 1) (tallyAt (barC c) 1 1)).2
    isplitl [H3] <;> iassumption
  isplitl [H1] <;> iassumption

end Cert.MoeRing

end
-- ==== Proof.Run.lean ====
/-
# `Run`: the launch of the ring

Every device starts with its places, duties and credit; its program takes them to its result, and the run of all of
them ends with each device's result array holding what the trips of the ring add up to.
-/
module

public import proofs.«01_k».proof.Proof.Alloc
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- What a device starts from, -/
def start (c : Dev nD) : sProp 𝕄 := iprop(∃ K, recs m ρ K ∗ starts c)

def Φ₀ (c : Dev nD) : sProp 𝕄 := iprop(start m ρ c ∗ comP c false ∗ comP c true)
/-- and what it ends with. -/
def Φ₁ (c : Dev nD) : sProp 𝕄 := iprop(ends c ∗ comP c false ∗ comP c true)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xBlk m ρ c
    | ⟨1, _⟩ => rBlk m ρ c
    | ⟨2, _⟩ => iBlk m ρ c
    | ⟨3, _⟩ => eBlk m ρ c
    | ⟨4, _⟩ => sBlk m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_in (w : Fin 6) (hw : w ≠ 5) : (cfg0.win w).fetch t₀ = true := by revert w; decide

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost (c : Dev nD) : sProp 𝕄 :=
  iprop(Φ₁ c ∗ (dats m ρ 0 c).owesAt 0 t₀.succ ∗ stg c cc0_stg0_0 (xBlk m ρ c) ∗ stg c cc0_stg1_0 (rBlk m ρ c) ∗ stg c cc0_stg2_0 (iBlk m ρ c)
    ∗ stg c cc0_stg3_0 (eBlk m ρ c) ∗ stg c cc0_stg4_0 (sBlk m ρ c) ∗ stg c cc0_stg5_0 (outAt m ρ c))

theorem sound_body (c : Dev nD) : bodyPre m ρ c ⊢ wpT c
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2 cc0_scratch3
      (Memref.whole cc0_scratch4) (Memref.isWhole_whole _) cc0_scratch5 cc0_scratch6 cc0_scratch7) (fun _ => bodyPost m ρ c) := by
  unfold bodyPre Φ₀ start
  iintro ⟨⟨⟨%K, Hr, Hs⟩, Hc⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xBlk m ρ c := by rw [hg0]; unfold Dat.before; rw [if_pos (fetch_in 0 (by decide))]; rfl
  have e1 : g1 = rBlk m ρ c := by rw [hg1]; unfold Dat.before; rw [if_pos (fetch_in 1 (by decide))]; rfl
  have e2 : g2 = iBlk m ρ c := by rw [hg2]; unfold Dat.before; rw [if_pos (fetch_in 2 (by decide))]; rfl
  have e3 : g3 = eBlk m ρ c := by rw [hg3]; unfold Dat.before; rw [if_pos (fetch_in 3 (by decide))]; rfl
  have e4 : g4 = sBlk m ρ c := by rw [hg4]; unfold Dat.before; rw [if_pos (fetch_in 4 (by decide))]; rfl
  subst e0 e1 e2 e3 e4
  unfold Dat.owesAt Pipeline.owesWithin
  icases Ho with ⟨%W, %hW, HO⟩
  iapply (program m ρ K c (g := g5)) $$ [Hr Hs Hc HO H0 H1 H2 H3 H4 H5]
  · isplitl [Hr]; · iexact Hr
    isplitl [HO]
    · unfold owesE; iexists W
      rw [show (dats m ρ 0 c).owed t₀.castSucc = O₀ c from rfl]
      iexact HO
    isplitl [Hs]; · iexact Hs
    isplitl [Hc]; · iexact Hc
    isplitr [H5]
    · unfold args
      isplitl [H0]; · iexact H0
      isplitl [H1]; · iexact H1
      isplitl [H2]; · iexact H2
      isplitl [H3]; · iexact H3
      iexact H4
    unfold outP; iexact H5
  unfold owesE args outP
  iintro ⟨⟨%W', HO⟩, He, Hc, ⟨H0, H1, H2, H3, H4⟩, H5⟩
  unfold bodyPost Φ₁ Dat.owesAt Pipeline.owesWithin
  rw [show (dats m ρ 0 c).owed t₀.succ = 0 from rfl]
  isplitl [He Hc]
  · isplitl [He] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
theorem body_obligation (c : Dev nD) : BodyObligation (dats (F := F) m ρ 0 c) (defs₀ (F := F)) 𝒱₀ 0 Set.univ := fun t => by
  rw [fin_N t]
  rw [bigSep_W, bigSep_W]
  simp only [owns_whole_eq]
  exact sound_body m ρ c

/-! ## The launch's side conditions -/

theorem share_eq (c : Dev nD) (w : Fin cfg0.W) : (dats m ρ 0 c).share w = fullShare := by unfold Dat.share; split <;> rfl

theorem places_eq (c : Dev nD) : (places c : sProp 𝕄)
    = iprop(atPos ER (barC c) 0 ∅ 0 ∗ atPos ER (crdC c false) 0 ∅ 0 ∗ atPos ER (crdC c true) 0 ∅ 0 ∗ atPos ER (sndC c false false) 0 ∅ 0 ∗ atPos ER (sndC c false true) 0 ∅ 0
      ∗ atPos ER (sndC c true false) 0 ∅ 0 ∗ atPos ER (sndC c true true) 0 ∅ 0 ∗ atPos ER (rcvC c false false) 0 ∅ 0 ∗ atPos ER (rcvC c false true) 0 ∅ 0
      ∗ atPos ER (rcvC c true false) 0 ∅ 0 ∗ atPos ER (rcvC c true true) 0 ∅ 0) := by
  unfold places; rw [bigSep_role]; rfl

/-- A direction's start from its places and its tokens. -/
theorem begins_intro (c : Dev nD) (b : Bool) :
    iprop(marks ∗ (atPos ER (crdC c b) 0 ∅ 0 ∗ atPos ER (sndC c b false) 0 ∅ 0 ∗ atPos ER (sndC c b true) 0 ∅ 0 ∗ atPos ER (rcvC c b false) 0 ∅ 0 ∗ atPos ER (rcvC c b true) 0 ∅ 0)
      ∗ (sndToks c b 0 ∗ rcvToks c b 0 ∗ crdToks c b 0) ∗ (rcvCreds c b 0 ∗ crdCreds c b 0)) ⊢ (begins c b : sProp 𝕄) := by
  unfold begins
  iintro ⟨#HR, ⟨P0, P1, P2, P3, P4⟩, ⟨T0, T1, T2⟩, C0, C1⟩
  isplitl [P1]
  · unfold sndAt; isplitl [P1]; · iexact P1
    iapply (mark_at (F := F) (c, .snd b false)); iexact HR
  isplitl [P2]
  · unfold sndAt; isplitl [P2]; · iexact P2
    iapply (mark_at (F := F) (c, .snd b true)); iexact HR
  isplitl [P4]
  · unfold rcvAt; isplitl [P4]; · iexact P4
    iapply (mark_at (F := F) (c, .rcv b true)); iexact HR
  isplitl [P3]
  · unfold rcvAt; isplitl [P3]; · iexact P3
    iapply (mark_at (F := F) (c, .rcv b false)); iexact HR
  isplitl [P0]
  · unfold crdAt; isplitl [P0]; · iexact P0
    iapply (mark_at (F := F) (c, .crd b)); iexact HR
  isplitl [T0]; · iexact T0
  isplitl [T1]; · iexact T1
  isplitl [T2]; · iexact T2
  isplitl [C0]; · iexact C0
  isplitl [C1]; · iexact C1
  iapply (mark_at (F := F) (dst b c, .rcv b true)); iexact HR

theorem starts_intro (c : Dev nD) :
    iprop(marks ∗ places c ∗ payToks c ∗ cred (tallyAt (barC c) 1 2) ∗ (rcvCreds c false 0 ∗ crdCreds c false 0) ∗ (rcvCreds c true 0 ∗ crdCreds c true 0)) ⊢ (starts c : sProp 𝕄) := by
  rw [places_eq]
  unfold starts barrierStart payToks
  iintro ⟨#HR, ⟨PB, Pc0, Pc1, Ps00, Ps01, Ps10, Ps11, Pr00, Pr01, Pr10, Pr11⟩, ⟨⟨TB0, TB1⟩, Tc0, Tc1, Ts0, Ts1, Tr0, Tr1⟩, CB, C0, C1⟩
  isplitl [PB TB0 TB1 CB]
  · isplitl [PB]; · iexact PB
    isplitl [CB]; · iexact CB
    isplitl [TB0]
    · isplitl [TB0]; · iexact TB0
      iapply (mark_at (F := F) (dst true c, .bar)); iexact HR
    · isplitl [TB1]; · iexact TB1
      iapply (mark_at (F := F) (dst false c, .bar)); iexact HR
  isplitl [Pc0 Ps00 Ps01 Pr00 Pr01 Tc0 Ts0 Tr0 C0]
  · iapply (begins_intro c false)
    isplitr; · iexact HR
    isplitl [Pc0 Ps00 Ps01 Pr00 Pr01]
    · isplitl [Pc0]; · iexact Pc0
      isplitl [Ps00]; · iexact Ps00
      isplitl [Ps01]; · iexact Ps01
      isplitl [Pr00] <;> iassumption
    isplitl [Tc0 Ts0 Tr0]
    · isplitl [Ts0]; · iexact Ts0
      isplitl [Tr0] <;> iassumption
    iexact C0
  · iapply (begins_intro c true)
    isplitr; · iexact HR
    isplitl [Pc1 Ps10 Ps11 Pr10 Pr11]
    · isplitl [Pc1]; · iexact Pc1
      isplitl [Ps10]; · iexact Ps10
      isplitl [Ps11]; · iexact Ps11
      isplitl [Pr10] <;> iassumption
    isplitl [Tc1 Ts1 Tr1]
    · isplitl [Ts1]; · iexact Ts1
      isplitl [Tr1] <;> iassumption
    iexact C1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, ⟨HI, HM⟩, HP, HT⟩⟩
  ihave Hc := (creds (F := F) c) $$ Hcr
  imodintro
  unfold start
  isplitl
  · iexists K
    isplitl [HI Hlev]
    · unfold recs invsAll; isplitl [HI] <;> iassumption
    iapply (starts_intro (F := F) c)
    isplitl [HM]; · iexact HM
    isplitl [HP]; · iexact HP
    isplitl [HT]; · iexact HT
    iexact Hc
  · iempintro

theorem comP_false (c : Dev nD) : (comP c false : sProp 𝕄) = iprop(∃ f : Buf (Elt F) ((c : Thread nD τ).loc cc0_scratch0), ((c : Thread nD τ).loc cc0_scratch0) ↦{fullShare} f) := by
  unfold comP
  rw [show (comM false).view.set = Finset.univ from View.set_whole _]; rfl
theorem comP_true (c : Dev nD) : (comP c true : sProp 𝕄) = iprop(∃ f : Buf (Elt F) ((c : Thread nD τ).loc cc0_scratch4), ((c : Thread nD τ).loc cc0_scratch4) ↦{fullShare} f) := by
  unfold comP
  rw [show (comM true).view.set = Finset.univ from View.set_whole _]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = _ from scopedRest0_eq c]
  unfold Φ₀
  rw [comP_false, comP_true]
  iintro ⟨Hs, -, Hr⟩
  isplitl [Hs] <;> iassumption

theorem phi1_exit (c : Dev nD) :
    (dats m ρ 0 c).Φ (Fin.last cfg0.N) ⊢ iprop(unscopedSems0 c ∗ own0 c ∗ Pipeline.scopedRest cfg0.spec c) := by
  rw [show (dats m ρ 0 c).Φ (Fin.last cfg0.N) = Φ₁ c from rfl, show (Pipeline.scopedRest cfg0.spec c : sProp 𝕄) = _ from scopedRest0_eq c, ownSems0_eq, unscopedSems0_eq]
  unfold Φ₁ ends zeros
  rw [comP_false, comP_true]
  iintro ⟨⟨HB, ⟨Z0, ⟨Z1, Z2⟩, Z3, Z4⟩, ⟨Z5, ⟨Z6, Z7⟩, Z8, Z9⟩⟩, Hc⟩
  isplitl [HB]; · iexact HB
  isplitr [Hc]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8] <;> iassumption
  iexact Hc

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait (by decide) (O₀_above c)
    · exact mayWait (by decide) (Above.zero 0)

/-! ## The run -/

def u₀ : UU :=
  (initOf (Pipeline.cells cfgs cellOf_inj) (Pipeline.launchToks cfgs cellOf_inj), initOf ringCells ringToks)

/-- What an array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters zero the sixteen devices' programs end, with every array at its final contents and
every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_in (c : Dev nD) (w : Fin 6) (hw : w ≠ 5) : finalA m ρ c w = (s₀ m ρ).mem ((cfg0.win w).arr.view.loc (c : Thread nD τ)) :=
  (dats (F := F) m ρ 0 c).arrAt_in w (by revert w; decide) _

/-! ## Every window is its whole array -/

theorem read_blk0 (f : main_arg0.ty.Contents (Elt F)) : (win0_0.blk (0 : Fin 1)).view.read (Elt F) f = f :=
  Memref.read_access_unit_zero (Elt F) main_arg0 (off := fun a => (win0_0.index (0 : Fin 1)) a * main_arg0.ty.shape.size a) (funext fun a => by fin_cases a <;> decide) (fun a => by fin_cases a <;> decide) f
theorem read_blk1 (f : main_arg1.ty.Contents (Elt F)) : (win0_1.blk (0 : Fin 1)).view.read (Elt F) f = f :=
  Memref.read_access_unit_zero (Elt F) main_arg1 (off := fun a => (win0_1.index (0 : Fin 1)) a * main_arg1.ty.shape.size a) (funext fun a => by fin_cases a <;> decide) (fun a => by fin_cases a <;> decide) f
theorem read_blk2 (f : main_arg2.ty.Contents (Elt F)) : (win0_2.blk (0 : Fin 1)).view.read (Elt F) f = f :=
  Memref.read_access_unit_zero (Elt F) main_arg2 (off := fun a => (win0_2.index (0 : Fin 1)) a * main_arg2.ty.shape.size a) (funext fun a => by fin_cases a <;> decide) (fun a => by fin_cases a <;> decide) f
theorem read_blk3 (f : main_arg3.ty.Contents (Elt F)) : (win0_3.blk (0 : Fin 1)).view.read (Elt F) f = f :=
  Memref.read_access_unit_zero (Elt F) main_arg3 (off := fun a => (win0_3.index (0 : Fin 1)) a * main_arg3.ty.shape.size a) (funext fun a => by fin_cases a <;> decide) (fun a => by fin_cases a <;> decide) f
theorem read_blk4 (f : main_arg4.ty.Contents (Elt F)) : (win0_4.blk (0 : Fin 1)).view.read (Elt F) f = f :=
  Memref.read_access_unit_zero (Elt F) main_arg4 (off := fun a => (win0_4.index (0 : Fin 1)) a * main_arg4.ty.shape.size a) (funext fun a => by fin_cases a <;> decide) (fun a => by fin_cases a <;> decide) f
theorem read_blk5 (f : main_v1.ty.Contents (Elt F)) : (win0_5.blk (0 : Fin 1)).view.read (Elt F) f = f :=
  Memref.read_access_unit_zero (Elt F) main_v1 (off := fun a => (win0_5.index (0 : Fin 1)) a * main_v1.ty.shape.size a) (funext fun a => by fin_cases a <;> decide) (fun a => by fin_cases a <;> decide) f

theorem xBlk_eq (c : Dev nD) : xBlk m ρ c = m ((c : Thread nD τ).loc main_arg0) := read_blk0 _
theorem rBlk_eq (c : Dev nD) : rBlk m ρ c = m ((c : Thread nD τ).loc main_arg1) := read_blk1 _
theorem iBlk_eq (c : Dev nD) : iBlk m ρ c = m ((c : Thread nD τ).loc main_arg2) := read_blk2 _
theorem eBlk_eq (c : Dev nD) : eBlk m ρ c = m ((c : Thread nD τ).loc main_arg3) := read_blk3 _
theorem sBlk_eq (c : Dev nD) : sBlk m ρ c = m ((c : Thread nD τ).loc main_arg4) := read_blk4 _

/-- The result's array ends as the device's result. -/
theorem finalA_out (c : Dev nD) : finalA m ρ c (5 : Fin 6) = outAt m ρ c := by
  refine (read_blk5 _).symm.trans ?_
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- What every run of the kernel ends with: the arguments as they were, and each device's result. -/
def Ends (r : PUnit × MemSt nD τ sig (Elt F)) : Prop :=
  (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0

theorem run : θ_run defs (onTc (τ := τ) (main (F := F))) ⟨m, fun _ => 0, ρ⟩ (Ends m ρ) :=
  (θ_run defs _ _).mono (fun _ h => ⟨fun c => ⟨(h.1 c (5 : Fin 6)).trans (finalA_out m ρ c), (h.1 c (0 : Fin 6)).trans (finalA_in m ρ c 0 (by decide)),
    (h.1 c (1 : Fin 6)).trans (finalA_in m ρ c 1 (by decide)), (h.1 c (2 : Fin 6)).trans (finalA_in m ρ c 2 (by decide)),
    (h.1 c (3 : Fin 6)).trans (finalA_in m ρ c 3 (by decide)), (h.1 c (4 : Fin 6)).trans (finalA_in m ρ c 4 (by decide))⟩, h.2⟩) (run_main m ρ)

/-- That run, with the result's values dropped. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run m ρ)

end Cert.MoeRing

end
-- ==== Proof.RefOut.lean ====
/-
# `RefOut`: one entry of the reference's result

A row of scores, its soft maximum, the two gathers of the reference — the gate a token's row has at its expert,
and that expert's matrix — and, from them, one entry of the result.
-/
module

public import proofs.«01_k».proof.Proof.Gen.ReferenceIdeal
public import Idealize.ShloMosaic.Lib.Pointwise

@[expose] public section

noncomputable section

namespace Cert.MoeRing

open Idealize.ShloMosaic

/-! ## A token's row -/

/-- A token's score at an expert. -/
def score (x : Fin 512 → EReal) (r : Fin 512 → Fin 64 → EReal) (e : Fin 64) : EReal := ∑ k, x k * r k e
/-- The largest of a row. -/
def top (s : Fin 64 → EReal) : EReal := Finset.fold max (Ideal.ofBits .f32 0xFF800000#32) s Finset.univ
/-- A row's soft maximum at an expert. -/
def prob (s : Fin 64 → EReal) (e : Fin 64) : EReal := Ideal.div (Ideal.exp (s e - top s)) (∑ e', Ideal.exp (s e' - top s))

/-! ## The reference's terms -/

section Terms
open Cert.ReferenceIdeal Cert.ReferenceIdeal.Gen

/-- The expert whose entry is read at the word `v`: the word as a signed number, brought between nought and 63. -/
def clamp (v : BitVec 32) : Fin 64 := ⟨min v.toInt.toNat 63, by omega⟩

variable (x : FVec Ideal S32768x512 .f32) (r : FVec Ideal S512x64 .f32) (a : IVec S32768x1 32) (w : FVec Ideal S64x512x1024 .f32)
  (s : FVec Ideal S512x1024 .f32)

/-- The tokens' exponentials, -/
def refExp : FVec Ideal S32768x64 .f32 :=
  Host.exp (subf (Host.dotGeneral dot_S32768x512_S512x64_S32768x64_1_0_0_1_n_n none x r) (broadcastInDim S32768x64 ![0, 1] bcast_S32768x1_S32768x64_0_1
    (broadcastInDim S32768x1 ![0] bcast_S32768_S32768x1_0 (Host.reduce FloatOps.maximumf (Host.dotGeneral dot_S32768x512_S512x64_S32768x64_1_0_0_1_n_n none x r)
      (constant S_ .f32 0xFF800000#32) reducesTo_S32768x64_S32768_d1 h_S_))))
/-- their soft maxima, -/
def refProbs : FVec Ideal S32768x64 .f32 :=
  Host.divf (refExp x r) (broadcastInDim S32768x64 ![0, 1] bcast_S32768x1_S32768x64_0_1 (broadcastInDim S32768x1 ![0] bcast_S32768_S32768x1_0
    (Host.reduceAdd (refExp x r) (constant S_ .f32 0x00000000#32) reducesTo_S32768x64_S32768_d1 h_S_)))
/-- their experts' words, a negative one moved by sixty-four, -/
def refIdx : IVec S32768x1x1 32 :=
  shapeCast _ (select (cmpi .slt a (broadcastInDim S32768x1 ![] bcast_S_S32768x1 (constantI S_ 32 0#32)))
    (addi a (broadcastInDim S32768x1 ![] bcast_S_S32768x1 (constantI S_ 32 64#32))) a) shapeCasts_S32768x1_S32768x1x1
/-- what they pick of the soft maxima, -/
def refPick : FVec Ideal S32768x1 .f32 := Host.gather gather_S32768x64_S32768x1x1_S32768x1_n_1_0_0_1_2_11 (refProbs x r) (refIdx a)
/-- their gates, -/
def refGate : FVec Ideal S32768x1 .f32 :=
  select (andi (cmpi .sge a (broadcastInDim S32768x1 ![] bcast_S_S32768x1 (constantI S_ 32 0#32)))
    (cmpi .slt a (broadcastInDim S32768x1 ![] bcast_S_S32768x1 (constantI S_ 32 64#32)))) (refPick x r a)
    (broadcastInDim S32768x1 ![] bcast_S_S32768x1 (id (constant S_ .f32 0x00000000#32)))
/-- their experts' matrices, -/
def refMats : FVec Ideal S32768x512x1024 .f32 :=
  Host.gather gather_S64x512x1024_S32768x1_S32768x512x1024_12_0_n_n_0_1_15121024 w
    (broadcastInDim S32768x1 ![0] bcast_S32768_S32768x1_0 (shapeCast S32768 a shapeCasts_S32768x1_S32768))
/-- and the result. -/
def refOut : FVec Ideal S32768x1024 .f32 :=
  addf (Host.dotGeneral dot_S32768x512_S512x1024_S32768x1024_1_0_0_1_n_n none x s)
    (mulf (broadcastInDim S32768x1024 ![0, 1] bcast_S32768x1_S32768x1024_0_1 (refGate x r a))
      (Host.dotGeneral dot_S32768x512_S32768x512x1024_S32768x1024_1_1_n_2_0_0 none x (refMats a w)))

/-- A row's soft maximum, in the reference. -/
theorem refProbs_apply (t : Fin 32768) (e : Fin 64) :
    refProbs x r (ix2 t e) = prob (score (fun k => x (ix2 t k)) (fun k e => r (ix2 k e))) e := by
  pointwise [refProbs, refExp, prob, score, top]

theorem axes2 (b : Fin 2) : b = 0 ∨ b = 1 := by revert b; decide
theorem axes3 (b : Fin 3) : b = 0 ∨ b = 1 ∨ b = 2 := by revert b; decide

/-- What a token picks, -/
theorem refPick_apply (t : Fin 32768) (u : Fin 1) : refPick x r a (ix2 t u) = refProbs x r (ix2 t (clamp (refIdx a (ix3 t u 0)))) := by
  unfold refPick Host.gather
  refine congrArg (refProbs x r) (funext fun ax => Fin.ext ?_)
  set d := gather_S32768x64_S32768x1x1_S32768x1_n_1_0_0_1_2_11 with hd
  show d.start (ix2 t u) (refIdx a) ax + d.batchCoord (ix2 t u) ax + d.offCoord (ix2 t u) ax = _
  rcases axes2 ax with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin S32768x64.rank) ∈ d.operandBatchingDims from List.mem_singleton.mpr rfl)]
    rfl
  · have hm : (1 : Fin S32768x64.rank) ∈ d.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos hm]
    have hsi : d.siIdx (ix2 t u) ⟨d.startIndexMap.idxOf 1, List.idxOf_lt_length_iff.2 hm⟩ = ix3 t u 0 := by
      funext b; refine Fin.ext ?_
      match b with
      | ⟨0, _⟩ => rfl
      | ⟨1, _⟩ => rfl
      | ⟨2, _⟩ => rfl
    rw [hsi]
    rfl

/-- the matrix of a token's expert, -/
theorem refMats_apply (t : Fin 32768) (k : Fin 512) (h : Fin 1024) : refMats a w (ix3 t k h) = w (ix3 (clamp (a (ix2 t 0))) k h) := by
  unfold refMats Host.gather
  refine congrArg w (funext fun ax => Fin.ext ?_)
  set d := gather_S64x512x1024_S32768x1_S32768x512x1024_12_0_n_n_0_1_15121024 with hd
  set v : IVec S32768x1 32 := broadcastInDim S32768x1 ![0] bcast_S32768_S32768x1_0 (shapeCast S32768 a shapeCasts_S32768x1_S32768) with hv
  show d.start (ix3 t k h) v ax + d.batchCoord (ix3 t k h) ax + d.offCoord (ix3 t k h) ax = _
  rw [GatherDims.batchCoord_eq_zero _ _ _ (fun h => absurd h List.not_mem_nil), Nat.add_zero]
  rcases axes3 ax with rfl | rfl | rfl
  · have hm : (0 : Fin S64x512x1024.rank) ∈ d.startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hsi : d.siIdx (ix3 t k h) ⟨d.startIndexMap.idxOf 0, List.idxOf_lt_length_iff.2 hm⟩ = ix2 t 0 := by
      funext b; refine Fin.ext ?_
      match b with
      | ⟨0, _⟩ => rfl
      | ⟨1, _⟩ => rfl
    rw [hsi]
    have hva : v (ix2 t 0) = a (ix2 t 0) := by pointwise [hv]
    rw [hva]
    rfl
  · unfold GatherDims.start
    rw [dif_neg (show (1 : Fin S64x512x1024.rank) ∉ d.startIndexMap from fun h => absurd (List.mem_singleton.mp h) (by decide)), Nat.zero_add]
    unfold GatherDims.offCoord
    rw [dif_pos (show (1 : Fin S64x512x1024.rank) ∈ d.sKept by decide)]
    rfl
  · unfold GatherDims.start
    rw [dif_neg (show (2 : Fin S64x512x1024.rank) ∉ d.startIndexMap from fun h => absurd (List.mem_singleton.mp h) (by decide)), Nat.zero_add]
    unfold GatherDims.offCoord
    rw [dif_pos (show (2 : Fin S64x512x1024.rank) ∈ d.sKept by decide)]
    rfl

/-- A word moved by sixty-four if it is negative. -/
def wrap (v : BitVec 32) : BitVec 32 := Scalar.select (IntOp.cmpi .slt v 0#32) (IntOp.addi v 64#32) v

theorem refIdx_apply (t : Fin 32768) (u v : Fin 1) : refIdx a (ix3 t u v) = wrap (a (ix2 t 0)) := by
  pointwise [refIdx, wrap]

/-- the gate, -/
theorem refGate_apply (t : Fin 32768) (u : Fin 1) :
    refGate x r a (ix2 t u) = Scalar.select (IntOp.andi (IntOp.cmpi .sge (a (ix2 t 0)) 0#32) (IntOp.cmpi .slt (a (ix2 t 0)) 64#32))
      (prob (score (fun k => x (ix2 t k)) (fun k e => r (ix2 k e))) (clamp (wrap (a (ix2 t 0))))) 0 := by
  have hu : u = 0 := Subsingleton.elim _ _
  subst hu
  have hp := refPick_apply x r a t 0
  rw [refProbs_apply, refIdx_apply] at hp
  rw [← hp]
  pointwise [refGate, id]

/-- and one entry of the result. -/
theorem refOut_apply (t : Fin 32768) (h : Fin 1024) :
    refOut x r a w s (ix2 t h) = (∑ k, x (ix2 t k) * s (ix2 k h))
      + Scalar.select (IntOp.andi (IntOp.cmpi .sge (a (ix2 t 0)) 0#32) (IntOp.cmpi .slt (a (ix2 t 0)) 64#32))
          (prob (score (fun k => x (ix2 t k)) (fun k e => r (ix2 k e))) (clamp (wrap (a (ix2 t 0))))) 0
        * ∑ k, x (ix2 t k) * w (ix3 (clamp (a (ix2 t 0))) k h) := by
  rw [← refGate_apply x r a t 0]
  have hm : ∀ k, w (ix3 (clamp (a (ix2 t 0))) k h) = refMats a w (ix3 t k h) := fun k => (refMats_apply a w t k h).symm
  simp only [hm]
  pointwise [refOut]

end Terms

end Cert.MoeRing

end
-- ==== Proof.KerOut.lean ====
/-
# `KerOut`: one entry of what a device computes

An expert adds to an entry the product of the token's row, scaled by its gate, with the expert's column, and
nothing where the token is another expert's. The two directions' hops together meet every device's experts once.
-/
module

public import proofs.«01_k».proof.Proof.Compute
public import proofs.«01_k».proof.Proof.RefOut

@[expose] public section

noncomputable section

namespace Cert.MoeRing

open Cert.KernelIdeal Cert.KernelIdeal.Gen
open Idealize.ShloMosaic
open Idealize.ShloMosaic.TcCoe
open Idealize.SL.Sem

/-- The shared product's entry. -/
theorem pay7_apply (x : FVec Ideal S2048x512 .f32) (s : FVec Ideal S512x1024 .f32) (i : Fin 2048) (h : Fin 1024) :
    k0_pay7 (F := Ideal) x s (ix2 i h) = ∑ k, x (ix2 i k) * s (ix2 k h) := by
  pointwise [k0_pay7, k0_pay4]

/-- A token's gate: its soft maximum at its expert, if its word names one. -/
theorem pay6_apply (x : FVec Ideal S2048x512 .f32) (r : FVec Ideal S512x64 .f32) (a : IVec S2048x1 32) (i : Fin 2048) (u : Fin 1) :
    k0_pay6 (F := Ideal) x r a (ix2 i u)
      = ∑ e : Fin 64, Scalar.select (IntOp.cmpi .eq (BitVec.ofNat 32 e.val) (a (ix2 i 0))) (prob (score (fun k => x (ix2 i k)) (fun k e => r (ix2 k e))) e) 0 := by
  have hu : u = 0 := Subsingleton.elim _ _
  subst hu
  pointwise [k0_pay6, k0_pay5, k0_pay4, prob, score, top]

theorem expertStep_apply (x : FVec Ideal S2048x512 .f32) (idx : IVec S2048x1 32) (p : FVec Ideal S2048x1 .f32) (word : BitVec 32)
    (W : Vec Ideal S1x1x512x1024 .bf16) (Y : Vec Ideal S2048x1024 .f32) (i : Fin 2048) (h : Fin 1024) :
    expertStep (F := Ideal) x idx p word W Y (ix2 i h)
      = Y (ix2 i h) + ∑ k, Scalar.select (IntOp.cmpi .eq (idx (ix2 i 0)) word) (x (ix2 i k) * p (ix2 i 0) * W (ix4 0 0 k h)) 0 := by
  pointwise [expertStep]

section Device

variable (m : (ℓ : Loc nD τ sig) → Buf (Elt Ideal) ℓ) (ρ : Dev nD → PrngReg) (c : Dev nD)

/-- What expert `e` of device `o` adds to an entry of device `c`'s result, -/
def adds (o : Dev nD) (e : Fin 4) (i : Fin 2048) (h : Fin 1024) : EReal :=
  ∑ k, Scalar.select (IntOp.cmpi .eq (iBlk m ρ c (ix2 i 0)) (BitVec.ofNat 32 (4 * o.val + e.val)))
    (xBlk m ρ c (ix2 i k) * gateV m ρ c (ix2 i 0) * eBlk m ρ o (ix3 e k h)) 0
/-- and its four together. -/
def addsAll (o : Dev nD) (i : Fin 2048) (h : Fin 1024) : EReal := ∑ e, adds m ρ c o e i h

theorem xV_apply (i : Fin 2048) (k : Fin 512) : xV m ρ c (ix2 i k) = xBlk m ρ c (ix2 i k) := by pointwise [xV, k0_pay4]
theorem idxV_apply (i : Fin 2048) (u : Fin 1) : idxV m ρ c (ix2 i u) = iBlk m ρ c (ix2 i u) := by
  have hu : u = 0 := Subsingleton.elim _ _
  subst hu
  pointwise [idxV, k0_pay5]

theorem held_apply (b : Bool) (t : ℕ) (e : Fin 4) (k : Fin 512) (h : Fin 1024) :
    mat (held m ρ c b t) e (ix4 0 0 k h) = eBlk m ρ (origin b t c) (ix3 e k h) := by
  show wBlk m ρ (origin b t c) (ix3 e k h) = _
  unfold wBlk
  pointwise [k0_pay8]

theorem step_apply (b : Bool) (t : ℕ) (e : Fin 4) (Y : Vec Ideal S2048x1024 .f32) (i : Fin 2048) (h : Fin 1024) :
    expertStep (xV m ρ c) (idxV m ρ c) (gateV m ρ c) (expertWord b t c e.val) (mat (held m ρ c b t) e) Y (ix2 i h)
      = Y (ix2 i h) + adds m ρ c (origin b t c) e i h := by
  rw [expertStep_apply]
  simp only [xV_apply, idxV_apply, held_apply]
  rfl

/-- A hop adds the four experts of the device whose matrices it holds. -/
theorem addHop_apply (b : Bool) (t : ℕ) (Y : Vec Ideal S2048x1024 .f32) (i : Fin 2048) (h : Fin 1024) :
    addHop m ρ c b t Y 4 (ix2 i h) = Y (ix2 i h) + addsAll m ρ c (origin b t c) i h := by
  have e3 := step_apply m ρ c b t 3 (addHop m ρ c b t Y 3) i h
  have e2 := step_apply m ρ c b t 2 (addHop m ρ c b t Y 2) i h
  have e1 := step_apply m ρ c b t 1 (addHop m ρ c b t Y 1) i h
  have e0 := step_apply m ρ c b t 0 Y i h
  unfold addsAll
  rw [Fin.sum_univ_four]
  refine e3.trans ?_
  rw [show addHop m ρ c b t Y 3 (ix2 i h) = _ from e2, show addHop m ρ c b t Y 2 (ix2 i h) = _ from e1,
    show addHop m ρ c b t Y 1 (ix2 i h) = _ from e0]
  simp only [add_assoc]

/-- The devices met by trip `t`, -/
def met (t : ℕ) : List (Dev nD) := origin false t c :: if 1 ≤ t ∧ t ≤ hops true then [origin true t c] else []
/-- and before it. -/
def metBefore : ℕ → List (Dev nD)
  | 0 => []
  | t + 1 => metBefore t ++ met c t

theorem trip_apply (t : ℕ) (i : Fin 2048) (h : Fin 1024) :
    outTrip m ρ c t (ix2 i h) = (∑ k, xBlk m ρ c (ix2 i k) * sBlk m ρ c (ix2 k h)) + ((metBefore c t).map fun o => addsAll m ρ c o i h).sum := by
  induction t with
  | zero => rw [show ((metBefore c 0).map fun o => addsAll m ρ c o i h).sum = 0 from rfl, add_zero]; exact pay7_apply _ _ i h
  | succ t ih =>
    rw [show metBefore c (t + 1) = metBefore c t ++ met c t from rfl, List.map_append, List.sum_append, ← add_assoc, ← ih]
    show outL m ρ c t (outR m ρ c t (outTrip m ρ c t)) (ix2 i h) = _
    unfold outL met
    by_cases ht : 1 ≤ t ∧ t ≤ hops true
    · rw [if_pos ht, if_pos ht, addHop_apply]
      unfold outR
      rw [addHop_apply]
      simp only [List.map_cons, List.map_nil, List.sum_cons, List.sum_nil, add_zero, add_assoc]
    · rw [if_neg ht, if_neg ht]
      unfold outR
      rw [addHop_apply]
      simp only [List.map_cons, List.map_nil, List.sum_cons, List.sum_nil, add_zero]

/-- In nine trips every device is met once. -/
theorem met_all : (metBefore c 9).Perm (List.finRange 16) := by
  revert c; decide +kernel

/-- An entry of a device's result. -/
theorem outAt_apply (i : Fin 2048) (h : Fin 1024) :
    outAt m ρ c (ix2 i h) = (∑ k, xBlk m ρ c (ix2 i k) * sBlk m ρ c (ix2 k h)) + ∑ o : Fin 16, addsAll m ρ c o i h := by
  unfold outAt
  rw [show k0_t1_loop.trips = 9 from by decide +kernel, trip_apply, (((met_all c).map fun o => addsAll m ρ c o i h)).sum_eq, ← Fin.sum_univ_def]

end Device

end Cert.MoeRing

end
-- ==== Proof.Softmax.lean ====
/-
# `Softmax`: a row of real scores has real, nonnegative soft maxima, and such a factor goes into a sum
-/
module

public import proofs.«01_k».proof.Proof.RefOut

@[expose] public section

noncomputable section

namespace Cert.MoeRing

open Idealize.ShloMosaic

/-- A number that is neither infinite. -/
def Fin' (x : EReal) : Prop := ∃ y : ℝ, x = (y : EReal)

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_sum {ι : Type} (S : Finset ι) (f : ι → EReal) (h : ∀ k, Fin' (f k)) : Fin' (∑ k ∈ S, f k) := by
  classical
  induction S using Finset.induction_on with
  | empty => exact ⟨0, by simp⟩
  | insert a S ha ih =>
    rw [Finset.sum_insert ha]
    obtain ⟨u, hu⟩ := h a; obtain ⟨v, hv⟩ := ih
    exact ⟨u + v, by rw [hu, hv, EReal.coe_add]⟩

theorem bottom : Ideal.ofBits .f32 0xFF800000#32 = ⊥ := by simp [Ideal.ofBits, Ideal.ieee]

/-- The largest of real scores is real, -/
theorem fin_top {s : Fin 64 → EReal} (h : ∀ e, Fin' (s e)) : Fin' (top s) := by
  have h1 : top s < ⊤ := by
    unfold top
    rw [bottom]
    refine (Finset.fold_max_lt _).2 ⟨bot_lt_top, fun e _ => ?_⟩
    obtain ⟨u, hu⟩ := h e
    rw [hu]; exact EReal.coe_lt_top u
  have h2 : ⊥ < top s := by
    obtain ⟨u, hu⟩ := h 0
    refine lt_of_lt_of_le (EReal.bot_lt_coe u) ?_
    rw [← hu]
    exact (Finset.le_fold_max _).2 (Or.inr ⟨0, Finset.mem_univ _, le_refl _⟩)
  exact ⟨(top s).toReal, (EReal.coe_toReal h1.ne h2.ne').symm⟩

/-- an exponential of real numbers' difference real and positive, -/
theorem exp_pos {x y : EReal} (hx : Fin' x) (hy : Fin' y) : ∃ z : ℝ, 0 < z ∧ Ideal.exp (x - y) = (z : EReal) := by
  obtain ⟨a, rfl⟩ := hx; obtain ⟨b, rfl⟩ := hy
  exact ⟨Real.exp (a - b), Real.exp_pos _, by rw [← EReal.coe_sub]; rfl⟩

/-- and so a soft maximum is a nonnegative real. -/
theorem prob_real {s : Fin 64 → EReal} (h : ∀ e, Fin' (s e)) (e : Fin 64) : 0 ≤ prob s e ∧ prob s e ≠ ⊤ := by
  have ht := fin_top h
  have hnn : ∀ e', 0 ≤ Ideal.exp (s e' - top s) := fun e' => by
    obtain ⟨z, hz, he⟩ := exp_pos (h e') ht
    rw [he]; exact EReal.coe_nonneg.2 hz.le
  obtain ⟨z, hz, he⟩ := exp_pos (h e) ht
  have hpos : 0 < ∑ e', Ideal.exp (s e' - top s) := by
    refine lt_of_lt_of_le (b := Ideal.exp (s e - top s)) ?_ (Finset.single_le_sum (fun e' _ => hnn e') (Finset.mem_univ e))
    rw [he]; exact EReal.coe_pos.2 hz
  unfold prob Ideal.div
  rw [if_neg hpos.ne', he]
  generalize ∑ e', Ideal.exp (s e' - top s) = S at hpos
  refine ⟨mul_nonneg (EReal.coe_nonneg.2 hz.le) (EReal.inv_nonneg_of_nonneg hpos.le), ?_⟩
  induction S with
  | bot => exact absurd hpos not_lt_bot
  | top => rw [EReal.inv_top, mul_zero]; exact EReal.zero_ne_top
  | coe r => rw [← EReal.coe_inv, ← EReal.coe_mul]; exact EReal.coe_ne_top _

/-- A nonnegative real factor goes into a sum. -/
theorem factor_sum {ι : Type} (S : Finset ι) (f : ι → EReal) {p : EReal} (h0 : 0 ≤ p) (h1 : p ≠ ⊤) : p * ∑ k ∈ S, f k = ∑ k ∈ S, p * f k := by
  classical
  induction S using Finset.induction_on with
  | empty => simp
  | insert a S ha ih => rw [Finset.sum_insert ha, Finset.sum_insert ha, EReal.left_distrib_of_nonneg_of_ne_top h0 h1, ih]

end Cert.MoeRing

end
-- ==== Proof.Entry.lean ====
/-
# `Entry`: the kernel's entry is the reference's

For one token and one column. Of the sixty-four experts the token's own alone adds anything: its row's products
with the expert's column, each scaled by the gate. The gate is a nonnegative real, and so it comes out of the sum.
-/
module

public import proofs.«01_k».proof.Proof.Softmax
public import Idealize.ShloMosaic.Lib.StableHlo.Predicate

@[expose] public section

noncomputable section

namespace Cert.MoeRing

open Idealize.ShloMosaic
open Idealize.ShloMosaic.StableHlo.Predicate

theorem pick_yes {α : Type} {b : BitVec 1} (h : b = 1#1) (x y : α) : Scalar.select b x y = x := by subst h; rfl
theorem pick_no {α : Type} {b : BitVec 1} (h : b ≠ 1#1) (x y : α) : Scalar.select b x y = y := by
  rcases BitVec.eq_zero_or_eq_one b with rfl | rfl
  · rfl
  · exact absurd rfl h

theorem word_eq_iff (v : BitVec 32) {n : ℕ} (hn : n < 64) : v = BitVec.ofNat 32 n ↔ v.toNat = n := by
  constructor
  · rintro rfl; rw [BitVec.toNat_ofNat]; omega
  · rintro rfl; exact (BitVec.ofNat_toNat 32 v ▸ (BitVec.setWidth_eq v).symm)

/-- A word names an expert exactly when it is a number below sixty-four. -/
theorem named_iff (v : BitVec 32) : IntOp.andi (IntOp.cmpi .sge v 0#32) (IntOp.cmpi .slt v 64#32) = 1#1 ↔ v.toNat < 64 := by
  have e : IntOp.andi (IntOp.cmpi .sge v 0#32) (IntOp.cmpi .slt v 64#32) = BitVec.ofBool ((0#32).sle v && v.slt 64#32) := by
    show BitVec.ofBool ((0#32).sle v) &&& BitVec.ofBool (v.slt 64#32) = _
    cases (0#32).sle v <;> cases v.slt 64#32 <;> rfl
  rw [e, ofBool_eq_one_iff, Bool.and_eq_true]
  have hv : v.toNat < 4294967296 := v.isLt
  have h0 : (0#32 : BitVec 32).toInt = 0 := by decide
  have h64 : (64#32 : BitVec 32).toInt = 64 := by decide
  have hm : v.toInt = if 2 * v.toNat < 4294967296 then (v.toNat : ℤ) else (v.toNat : ℤ) - 4294967296 := BitVec.toInt_eq_toNat_cond v
  simp only [BitVec.sle, BitVec.slt, decide_eq_true_eq, h0, h64, hm]
  split <;> omega

theorem clamp_of_lt {v : BitVec 32} (h : v.toNat < 64) : clamp v = ⟨v.toNat, h⟩ := by
  refine Fin.ext ?_
  show min v.toInt.toNat 63 = v.toNat
  rw [toInt_eq_toNat_of_lt (by omega)]
  omega

theorem wrap_of_lt {v : BitVec 32} (h : v.toNat < 64) : wrap v = v := by
  refine pick_no (fun hc => ?_) _ _
  have := (slt_iff_toNat (a := v) (b := 0#32) (by omega) (by decide)).1 hc
  simp at this

/-- The gate the kernel gives a token, -/
def gate (P : Fin 64 → EReal) (v : BitVec 32) : EReal := ∑ e : Fin 64, Scalar.select (IntOp.cmpi .eq (BitVec.ofNat 32 e.val) v) (P e) 0

/-- which is its soft maximum at its expert. -/
theorem gate_of_lt (P : Fin 64 → EReal) {v : BitVec 32} (h : v.toNat < 64) : gate P v = P ⟨v.toNat, h⟩ := by
  unfold gate
  rw [Finset.sum_eq_single ⟨v.toNat, h⟩]
  · exact pick_yes (cmpi_eq_iff.2 ((word_eq_iff v h).2 rfl).symm) _ _
  · intro e _ he
    refine pick_no (fun hc => he (Fin.ext ?_)) _ _
    exact ((word_eq_iff v e.isLt).1 (cmpi_eq_iff.1 hc).symm).symm
  · exact fun h' => absurd (Finset.mem_univ _) h'

/-- The expert a device has at a place. -/
def expertOf (o : Fin 16) (e : Fin 4) : Fin 64 := ⟨4 * o.val + e.val, by omega⟩

theorem entry_eq (x : Fin 512 → EReal) (P : Fin 64 → EReal) (hP : ∀ e, 0 ≤ P e ∧ P e ≠ ⊤) (v : BitVec 32) (W : Fin 64 → Fin 512 → EReal) :
    (∑ o : Fin 16, ∑ e : Fin 4, ∑ k, Scalar.select (IntOp.cmpi .eq v (BitVec.ofNat 32 (4 * o.val + e.val))) (x k * gate P v * W (expertOf o e) k) 0)
      = Scalar.select (IntOp.andi (IntOp.cmpi .sge v 0#32) (IntOp.cmpi .slt v 64#32)) (P (clamp (wrap v))) 0 * ∑ k, x k * W (clamp v) k := by
  have hno : ∀ (o : Fin 16) (e : Fin 4), v.toNat ≠ 4 * o.val + e.val →
      (∑ k, Scalar.select (IntOp.cmpi .eq v (BitVec.ofNat 32 (4 * o.val + e.val))) (x k * gate P v * W (expertOf o e) k) 0) = 0 := fun o e h =>
    Finset.sum_eq_zero fun k _ => pick_no (fun hc => h ((word_eq_iff v (by omega)).1 (cmpi_eq_iff.1 hc))) _ _
  by_cases h : v.toNat < 64
  · rw [pick_yes ((named_iff v).2 h), wrap_of_lt h, clamp_of_lt h, factor_sum _ _ (hP _).1 (hP _).2,
      Finset.sum_eq_single (⟨v.toNat / 4, by omega⟩ : Fin 16), Finset.sum_eq_single (⟨v.toNat % 4, by omega⟩ : Fin 4)]
    · refine Finset.sum_congr rfl fun k _ => ?_
      have hd : 4 * (v.toNat / 4) + v.toNat % 4 = v.toNat := by omega
      have he : expertOf ⟨v.toNat / 4, by omega⟩ ⟨v.toNat % 4, by omega⟩ = ⟨v.toNat, h⟩ := Fin.ext hd
      rw [pick_yes (cmpi_eq_iff.2 ((word_eq_iff v (by show 4 * (v.toNat / 4) + v.toNat % 4 < 64; omega)).2 hd.symm)), gate_of_lt P h, he]
      rw [mul_comm (x k), mul_assoc]
    · exact fun e _ he => hno _ _ (fun hc => he (Fin.ext (by have := e.isLt; simp only at hc ⊢; omega)))
    · exact fun h' => absurd (Finset.mem_univ _) h'
    · exact fun o _ ho => Finset.sum_eq_zero fun e _ => hno _ _ (fun hc => ho (Fin.ext (by have := e.isLt; simp only; omega)))
    · exact fun h' => absurd (Finset.mem_univ _) h'
  · rw [pick_no (fun hc => h ((named_iff v).1 hc)), zero_mul]
    exact Finset.sum_eq_zero fun o _ => Finset.sum_eq_zero fun e _ => hno o e (by omega)

end Cert.MoeRing

end
-- ==== Proof.Value.lean ====
/-
# `Value`: every device ends with its part of the reference's result
-/
module

public import proofs.«01_k».proof.Defs
public import proofs.«01_k».proof.Proof.Gen.ReferenceIdeal.Run
public import proofs.«01_k».proof.Proof.Run
public import proofs.«01_k».proof.Proof.KerOut
public import proofs.«01_k».proof.Proof.Entry
public import Idealize.ShloMosaic.Lib.ReduceAll

@[expose] public section

noncomputable section

namespace Cert.MoeRing

open Idealize.ShloMosaic
open Idealize.ShloMosaic.TcCoe
open Idealize.SL.Sem

/-! ## What the precondition says -/

theorem preFacts : Cert.Pre_finite_router_KernelIdeal.Facts := ⟨by decide, by decide, by decide, by decide, by decide⟩
theorem preFacts' : Cert.Pre_finite_router_ReferenceIdeal.Facts := ⟨by decide, by decide, by decide, by decide, by decide⟩

/-- A number whose absolute value is below infinity is real. -/
theorem fin_of_abs (x : Ideal .f32)
    (h : FloatOps.cmpf .olt (FloatOps.hostAbsf x) (FloatOps.ofBits (F := Ideal) .f32 0x7F800000#32) = 1#1) : Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  obtain ⟨h1, h2⟩ := max_lt_iff.1 hlt
  refine ⟨EReal.toReal x, (EReal.coe_toReal h1.ne fun hb => ?_).symm⟩
  rw [hb, EReal.neg_bot] at h2
  exact lt_irrefl _ h2

/-- Under it the tokens and the router's matrix are real. -/
theorem pre_real (x : FVec Ideal ⟨2, ![2048, 512]⟩ .f32) (r : FVec Ideal ⟨2, ![512, 64]⟩ .f32) (a : IVec ⟨2, ![2048, 1]⟩ 32)
    (w : FVec Ideal ⟨3, ![4, 512, 1024]⟩ .f32) (s : FVec Ideal ⟨2, ![512, 1024]⟩ .f32)
    (h : @Cert.Pre_finite_router_KernelIdeal.fn preFacts Ideal _ x r a w s = fun _ => 1#1) : (∀ i, Fin' (x i)) ∧ ∀ i, Fin' (r i) := by
  haveI : Subsingleton Cert.Pre_finite_router_KernelIdeal.S_.Idx := ⟨fun i j => funext fun b => b.elim0⟩
  have h0 := congrFun h (fun b => b.elim0)
  have h1 := (IntOp.andi_eq_one.1 h0).1
  have h2 := (IntOp.andi_eq_one.1 h0).2
  exact ⟨fun i => fin_of_abs _ (Host.reduce_andi_all _ _ _ _ _ h1 i), fun i => fin_of_abs _ (Host.reduce_andi_all _ _ _ _ _ h2 i)⟩

/-! ## The entries agree -/

section
open Cert.KernelIdeal Cert.KernelIdeal.Gen

variable (m : (ℓ : Loc nD τ sig) → Buf (Elt Ideal) ℓ) (ρ : Dev nD → PrngReg)
  (X : FVec Ideal ⟨2, ![32768, 512]⟩ .f32) (R : FVec Ideal ⟨2, ![512, 64]⟩ .f32) (A : IVec ⟨2, ![32768, 1]⟩ 32)
  (W : FVec Ideal ⟨3, ![64, 512, 1024]⟩ .f32) (S : FVec Ideal ⟨2, ![512, 1024]⟩ .f32)

/-- A device's token among all. -/
def token (c : Dev nD) (i : Fin 2048) : Fin 32768 := ⟨c.val * 2048 + i.val, by have : c.val < 16 := c.isLt; omega⟩

theorem block_row {α : Type} {q : ℕ} (V : (⟨2, ![32768, q]⟩ : Shape).Idx → α) (c : Dev nD)
    (hT : Layout.Tiles ⟨2, ![2048, q]⟩ ⟨2, ![32768, q]⟩ 0 16) (i : Fin 2048) (k : Fin q) :
    Layout.block ⟨2, ![2048, q]⟩ ⟨2, ![32768, q]⟩ 0 16 c V hT (ix2 i k) = V (ix2 (token c i) k) := by
  rw [Layout.block_apply]
  refine congrArg V (funext fun b => Fin.ext ?_)
  rcases axes2 b with rfl | rfl <;> rfl

theorem block_mat (V : (⟨3, ![64, 512, 1024]⟩ : Shape).Idx → EReal) (c : Dev nD)
    (hT : Layout.Tiles ⟨3, ![4, 512, 1024]⟩ ⟨3, ![64, 512, 1024]⟩ 0 16) (e : Fin 4) (k : Fin 512) (h : Fin 1024) :
    Layout.block ⟨3, ![4, 512, 1024]⟩ ⟨3, ![64, 512, 1024]⟩ 0 16 c V hT (ix3 e k h) = V (ix3 (expertOf c e) k h) := by
  rw [Layout.block_apply]
  refine congrArg V (funext fun b => Fin.ext ?_)
  rcases axes3 b with rfl | rfl | rfl
  · show c.val * 4 + e.val = 4 * c.val + e.val
    omega
  · rfl
  · rfl

variable (hx : ∀ c i k, xBlk m ρ c (ix2 i k) = X (ix2 (token c i) k)) (hr : ∀ c, rBlk m ρ c = R)
  (ha : ∀ c i, iBlk m ρ c (ix2 i 0) = A (ix2 (token c i) 0)) (hw : ∀ c e k h, eBlk m ρ c (ix3 e k h) = W (ix3 (expertOf c e) k h))
  (hs : ∀ c, sBlk m ρ c = S) (hX : ∀ i, Fin' (X i)) (hR : ∀ i, Fin' (R i))

include hx hr ha hw hs hX hR in
theorem out_eq (c : Dev nD) (i : Fin 2048) (h : Fin 1024) : outAt m ρ c (ix2 i h) = refOut X R A W S (ix2 (token c i) h) := by
  rw [outAt_apply, refOut_apply]
  refine congrArg₂ (· + ·) ?_ ?_
  · rw [hs]; exact Finset.sum_congr rfl fun k _ => by rw [hx]
  · refine Eq.trans ?_ (entry_eq (fun k => X (ix2 (token c i) k)) (prob (score (fun k => X (ix2 (token c i) k)) (fun k e => R (ix2 k e))))
      (fun e => prob_real (fun e' => fin_sum _ _ fun k => fin_mul (hX _) (hR _)) e) (A (ix2 (token c i) 0)) (fun e k => W (ix3 e k h)))
    have hg : gateV m ρ c (ix2 i 0) = gate (prob (score (fun k => X (ix2 (token c i) k)) (fun k e => R (ix2 k e)))) (A (ix2 (token c i) 0)) := by
      refine (pay6_apply _ _ _ i 0).trans ?_
      rw [hr, ha]
      simp only [hx]
      rfl
    refine Finset.sum_congr rfl fun o _ => Finset.sum_congr rfl fun e _ => Finset.sum_congr rfl fun k _ => ?_
    rw [hg, ha, hx, hw]

end

end Cert.MoeRing

end
-- ==== Proof.lean ====
/-
# The proof

The ring's run is proved once, over any float values (`Cert.MoeRing.run`); the frames of the kernel and of the ideal
program are that run with its values dropped, and the agreement with the reference is that run read at every entry.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.SL.Sem

/-- The two programs' bodies are the same text, -/
theorem bodies_eq {F : FTy → Type} [FloatOps F] :
    @Cert.Kernel.defs₀ F _ Cert.Kernel.Gen.facts = @Cert.KernelIdeal.defs₀ F _ Cert.KernelIdeal.Gen.facts := by
  refine congrArg Defs.onTc (funext fun l => funext fun a => ?_)
  match l, a with
  | 0, (t, s) => rfl

/-- so their tables are the same, -/
theorem tables_eq {F : FTy → Type} [FloatOps F] :
    @Cert.Kernel.defs F _ Cert.Kernel.Gen.facts = @Cert.KernelIdeal.defs F _ Cert.KernelIdeal.Gen.facts :=
  congrArg (Pipeline.defs (Cert.KernelIdeal.pcfgs (F := F))) bodies_eq

/-- and the kernel terminates without fault, leaves its arguments as they were and every counter at zero, -/
theorem frame_kernel : @Cert.quiescent_Kernel Cert.Kernel.Gen.facts := fun m ρ _ => by
  have h := Cert.MoeRing.run_kept (F := Bits) m ρ
  rw [← tables_eq] at h
  exact h

/-- and so does the ideal program. -/
theorem frame_kernelIdeal : @Cert.quiescent_KernelIdeal Cert.KernelIdeal.Gen.facts := fun m ρ _ => Cert.MoeRing.run_kept (F := Ideal) m ρ

/-- The reference terminates too, leaves its arguments as they were, and has no counter at all. -/
theorem frame_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the tokens and the router's matrix are finite, every device ends with its part of the reference's result. -/
theorem agrees : @Cert.algebraic_KernelIdeal_ReferenceIdeal_pre_finite_router_KernelIdeal Cert.KernelIdeal.Gen.facts
    Cert.ReferenceIdeal.Gen.facts Cert.MoeRing.preFacts := fun m g m' g' hpre hargs => by
  have hreal := Cert.MoeRing.pre_real _ _ _ _ _ (hpre 0)
  have hX : ∀ t k, Cert.MoeRing.Fin' (m' (((0 : Dev Cert.ReferenceIdeal.nD).tc : Thread Cert.ReferenceIdeal.nD Cert.ReferenceIdeal.τ).loc Cert.ReferenceIdeal.main_arg0) (ix2 (n0 := 32768) (n1 := 512) t k)) := fun t k => by
    have hc : t.val / 2048 < 16 := by have := t.isLt; omega
    have h1 := (Cert.MoeRing.pre_real _ _ _ _ _ (hpre ⟨t.val / 2048, hc⟩)).1 (ix2 ⟨t.val % 2048, by omega⟩ k)
    rw [(hargs ⟨t.val / 2048, hc⟩).1, Cert.MoeRing.block_row] at h1
    have ht : Cert.MoeRing.token ⟨t.val / 2048, hc⟩ ⟨t.val % 2048, by omega⟩ = t := Fin.ext (by show t.val / 2048 * 2048 + t.val % 2048 = t.val; omega)
    rwa [ht] at h1
  have hR := hreal.2
  rw [(hargs 0).2.1] at hR
  refine ⟨Cert.MoeRing.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ?_) (Cert.MoeRing.run (F := Ideal) m g)
    refine ⟨((h.1 c).1).trans (funext fun ij => ?_), (h.1 c).2⟩
    rw [Idealize.ShloMosaic.eq_ix2 (n0 := 2048) (n1 := 1024) ij]
    refine Eq.trans ?_ (Cert.MoeRing.block_row (q := 1024) _ c _ _ _).symm
    refine Cert.MoeRing.out_eq m g _ _ _ _ _ (fun c i k => ?_) (fun c => ?_) (fun c i => ?_) (fun c e k h => ?_) (fun c => ?_) (fun i => ?_) hR c _ _
    · rw [Cert.MoeRing.xBlk_eq]
      exact (congrFun (hargs c).1 _).trans (Cert.MoeRing.block_row _ c _ i k)
    · rw [Cert.MoeRing.rBlk_eq]
      exact (hargs c).2.1
    · rw [Cert.MoeRing.iBlk_eq]
      exact (congrFun (hargs c).2.2.1 _).trans (Cert.MoeRing.block_row _ c _ i 0)
    · rw [Cert.MoeRing.eBlk_eq]
      exact (congrFun (hargs c).2.2.2.1 _).trans (Cert.MoeRing.block_mat _ c _ e k h)
    · rw [Cert.MoeRing.sBlk_eq]
      exact (hargs c).2.2.2.2
    · rw [Idealize.ShloMosaic.eq_ix2 (n0 := 32768) (n1 := 512) i]
      exact hX _ _
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.MoeRing.preFacts, Cert.MoeRing.preFacts',
    frame_kernel, frame_kernelIdeal, fun m ρ _ => frame_kernelIdeal m ρ trivial, frame_reference,
    fun m ρ _ => frame_reference m ρ trivial, trivial, agrees⟩

end Cert.Proof

end
